-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S1024x512x64 : Shape := ⟨3, ![1024, 512, 64]⟩
abbrev S64x64 : Shape := ⟨2, ![64, 64]⟩
abbrev S1024 : Shape := ⟨1, ![1024]⟩
abbrev S_ : Shape := ⟨0, ![]⟩

class Facts : Prop where
  bcast_S_S1024x512x64 : S_.BroadcastsInDim S1024x512x64 (![] : Fin 0 → Fin S1024x512x64.rank)
  bcast_S_S64x64 : S_.BroadcastsInDim S64x64 (![] : Fin 0 → Fin S64x64.rank)
  bcast_S_S1024 : S_.BroadcastsInDim S1024 (![] : Fin 0 → Fin S1024.rank)

variable [Facts]

def fn {F : FTy → Type} [FloatOps F] (main_arg0 : FVec F S1024x512x64 .f32) (main_arg1 : FVec F S64x64 .f32) (main_arg2 : IVec S1024 32) : IVec S1024x512x64 1 × IVec S64x64 1 × IVec S1024 1 :=
  let main_cst : FVec F S_ .f32 := constant S_ .f32 0x7F800000#32
  let main_v0 : FVec F S1024x512x64 .f32 := broadcastInDim S1024x512x64 ![] bcast_S_S1024x512x64 main_cst
  let main_v1 : IVec S1024x512x64 1 := cmpf .olt main_arg0 main_v0
  let main_cst_0 : FVec F S_ .f32 := constant S_ .f32 0x7F800000#32
  let main_v2 : FVec F S64x64 .f32 := broadcastInDim S64x64 ![] bcast_S_S64x64 main_cst_0
  let main_v3 : IVec S64x64 1 := cmpf .olt main_arg1 main_v2
  let main_c : IVec S_ 32 := constantI S_ 32 1#32
  let main_v4 : IVec S1024 32 := broadcastInDim S1024 ![] bcast_S_S1024 main_c
  let main_v5 : IVec S1024 1 := cmpi .sge main_arg2 main_v4
  let main_c_1 : IVec S_ 32 := constantI S_ 32 512#32
  let main_v6 : IVec S1024 32 := broadcastInDim S1024 ![] bcast_S_S1024 main_c_1
  let main_v7 : IVec S1024 1 := cmpi .sle main_arg2 main_v6
  let main_v8 : IVec S1024 1 := andi main_v5 main_v7
  (main_v1, main_v3, main_v8)
-- ==== Kernel.lean ====
abbrev S1024x512x64 : Shape := ⟨3, ![1024, 512, 64]⟩
abbrev S64x64 : Shape := ⟨2, ![64, 64]⟩
abbrev S1024 : Shape := ⟨1, ![1024]⟩
abbrev S512x1024x64 : Shape := ⟨3, ![512, 1024, 64]⟩
abbrev S1x1024 : Shape := ⟨2, ![1, 1024]⟩
abbrev S32x1024x64 : Shape := ⟨3, ![32, 1024, 64]⟩
abbrev S64x1024 : Shape := ⟨2, ![64, 1024]⟩
abbrev S1x1024x64 : Shape := ⟨3, ![1, 1024, 64]⟩
abbrev S1024x64 : Shape := ⟨2, ![1024, 64]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x512x64, .f32⟩
  | .hbm, ⟨1, _⟩ => ⟨S64x64, .f32⟩
  | .hbm, ⟨2, _⟩ => ⟨S1024, .i32⟩
  | .hbm, ⟨3, _⟩ => ⟨S512x1024x64, .f32⟩
  | .hbm, ⟨4, _⟩ => ⟨S1x1024, .i32⟩
  | .hbm, ⟨5, _⟩ => ⟨S1x1024, .f32⟩
  | .hbm, ⟨6, _⟩ => ⟨S1024x1, .f32⟩
  | .local _ .vmem, ⟨0, _⟩ => ⟨S32x1024x64, .f32⟩
  | .local _ .vmem, ⟨1, _⟩ => ⟨S32x1024x64, .f32⟩
  | .local _ .vmem, ⟨2, _⟩ => ⟨S64x64, .f32⟩
  | .local _ .vmem, ⟨3, _⟩ => ⟨S1x1024, .i32⟩
  | .local _ .vmem, ⟨4, _⟩ => ⟨S1x1024, .f32⟩
  | .local _ .vmem, ⟨5, _⟩ => ⟨S64x1024, .f32⟩
  | .local _ .vmem, ⟨6, _⟩ => ⟨S1x1024, .f32⟩
  | .local _ .vmem, ⟨7, _⟩ => ⟨S1x1024, .f32⟩
  | _, _ => ⟨S1024x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_4 : BitVec 32 := 0#32
  let v10 : BitVec 1 := Scalar.cmpi .ne arg0 c0_i32_4
  let v11 : BitVec 32 := Scalar.extui v10
  let c0_i32_5 : BitVec 32 := 0#32
  let v12 : BitVec 1 := Scalar.cmpi .ne v11 c0_i32_5
  v12

def k0_off1 (i : grid0.Coords) : Fin 3 → Nat :=
  let arg0 : BitVec 32 := BitVec.ofNat 32 (i 0).val
  let c32_i32 : BitVec 32 := 32#32
  let v6 : BitVec 32 := Scalar.muli arg0 c32_i32
  let v653 : BitVec 32 := Scalar.subi v6 v6
  let v654 : Index := Scalar.indexCast v653
  let c0_185 : Index := 0#32
  let c0_186 : Index := 0#32
  ![v654.toNat, 0, 0]
def k0_off2 (i : grid0.Coords) (c1_i32_14 : BitVec 32) : Fin 3 → Nat :=
  let arg0 : BitVec 32 := BitVec.ofNat 32 (i 0).val
  let c32_i32 : BitVec 32 := 32#32
  let v6 : BitVec 32 := Scalar.muli arg0 c32_i32
  let v18 : BitVec 32 := Scalar.addi v6 c1_i32_14
  let v19 : BitVec 32 := Scalar.subi v18 v6
  let v20 : Index := Scalar.indexCast v19
  let c0_15 : Index := 0#32
  let c0_16 : Index := 0#32
  ![v20.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x512x64 : Shape := ⟨3, ![1024, 512, 64]⟩
abbrev S64x64 : Shape := ⟨2, ![64, 64]⟩
abbrev S1024 : Shape := ⟨1, ![1024]⟩
abbrev S512x1024x64 : Shape := ⟨3, ![512, 1024, 64]⟩
abbrev S1x1024x64 : Shape := ⟨3, ![1, 1024, 64]⟩
abbrev S1024x64 : Shape := ⟨2, ![1024, 64]⟩
abbrev S_ : Shape := ⟨0, ![]⟩
abbrev S1024x1 : Shape := ⟨2, ![1024, 1]⟩
abbrev S511x1024x64 : Shape := ⟨3, ![511, 1024, 64]⟩
abbrev S511x1024 : Shape := ⟨2, ![511, 1024]⟩
abbrev S1024x1x64 : Shape := ⟨3, ![1024, 1, 64]⟩
abbrev S1024x64x1 : Shape := ⟨3, ![1024, 64, 1]⟩
abbrev S1024x64x64 : Shape := ⟨3, ![1024, 64, 64]⟩
abbrev S1x64x64 : Shape := ⟨3, ![1, 64, 64]⟩
abbrev S1x1024 : Shape := ⟨2, ![1, 1024]⟩
abbrev S512x1024 : Shape := ⟨2, ![512, 1024]⟩
abbrev S1024x512 : Shape := ⟨2, ![1024, 512]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S1024x512x64, .f32⟩
  | .hbm, ⟨1, _⟩ => ⟨S64x64, .f32⟩
  | .hbm, ⟨2, _⟩ => ⟨S1024, .i32⟩
  | .hbm, ⟨3, _⟩ => ⟨S512x1024x64, .f32⟩
  | .hbm, ⟨4, _⟩ => ⟨S1x1024x64, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S511x1024x64, .f32⟩
  | .hbm, ⟨18, _⟩ => ⟨S_, .f32⟩
  | .hbm, ⟨19, _⟩ => ⟨S511x1024, .f32⟩
  | .hbm, ⟨20, _⟩ => ⟨S_, .i32⟩
  | .hbm, ⟨21, _⟩ => ⟨S511x1024x64, .f32⟩
  | .hbm, ⟨22, _⟩ => ⟨S64x64, .f32⟩
  | .hbm, ⟨23, _⟩ => ⟨S_, .i32⟩
  | .hbm, ⟨24, _⟩ => ⟨S1024x64, .f32⟩
  | .hbm, ⟨25, _⟩ => ⟨S511x1024, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x1024x64, .f32⟩
  | .hbm, ⟨31, _⟩ => ⟨S1024x64, .f32⟩
  | .hbm, ⟨32, _⟩ => ⟨S1024x1x64, .f32⟩
  | .hbm, ⟨33, _⟩ => ⟨S1024x64x1, .f32⟩
  | .hbm, ⟨34, _⟩ => ⟨S1024x64x64, .f32⟩
  | .hbm, ⟨35, _⟩ => ⟨S1024x64x64, .f32⟩
  | .hbm, ⟨36, _⟩ => ⟨S1024x64x64, .f32⟩
  | .hbm, ⟨37, _⟩ => ⟨S1x64x64, .f32⟩
  | .hbm, ⟨38, _⟩ => ⟨S1024x64x64, .f32⟩
  | .hbm, ⟨39, _⟩ => ⟨S1024x64x64, .f32⟩
  | .hbm, ⟨40, _⟩ => ⟨S_, .f32⟩
  | .hbm, ⟨41, _⟩ => ⟨S1024x64, .f32⟩
  | .hbm, ⟨42, _⟩ => ⟨S1024x64x1, .f32⟩
  | .hbm, ⟨43, _⟩ => ⟨S1024x64, .f32⟩
  | .hbm, ⟨44, _⟩ => ⟨S1024x64x64, .f32⟩
  | .hbm, ⟨45, _⟩ => ⟨S1024x64x64, .f32⟩
  | .hbm, ⟨46, _⟩ => ⟨S1024x64x64, .f32⟩
  | .hbm, ⟨47, _⟩ => ⟨S_, .f32⟩
  | .hbm, ⟨48, _⟩ => ⟨S1024x64, .f32⟩
  | .hbm, ⟨49, _⟩ => ⟨S1024x64, .f32⟩
  | .hbm, ⟨50, _⟩ => ⟨S1024x64, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S1024, .f32⟩
  | .hbm, ⟨55, _⟩ => ⟨S1024x64, .f32⟩
  | .hbm, ⟨56, _⟩ => ⟨S1024x64, .f32⟩
  | .hbm, ⟨57, _⟩ => ⟨S1024x64, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S_, .i32⟩
  | .hbm, ⟨64, _⟩ => ⟨S511x1024, .f32⟩
  | .hbm, ⟨65, _⟩ => ⟨S_, .i32⟩
  | .hbm, ⟨66, _⟩ => ⟨S_, .i32⟩
  | .hbm, ⟨67, _⟩ => ⟨S1x1024, .f32⟩
  | .hbm, ⟨68, _⟩ => ⟨S512x1024, .f32⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024x512, .f32⟩
  | .hbm, ⟨73, _⟩ => ⟨S1024x1, .i32⟩
  | .hbm, ⟨74, _⟩ => ⟨S_, .i32⟩
  | .hbm, ⟨75, _⟩ => ⟨S1024x1, .i32⟩
  | .hbm, ⟨76, _⟩ => ⟨S1024x1, .i1⟩
  | .hbm, ⟨77, _⟩ => ⟨S_, .i32⟩
  | .hbm, ⟨78, _⟩ => ⟨S1024x1, .i32⟩
  | .hbm, ⟨79, _⟩ => ⟨S1024x1, .i32⟩
  | .hbm, ⟨80, _⟩ => ⟨S1024x1, .i32⟩
  | .hbm, ⟨81, _⟩ => ⟨S1024x1x1, .i32⟩
  | .hbm, ⟨82, _⟩ => ⟨S1, .i32⟩
  | .hbm, ⟨83, _⟩ => ⟨S_, .i32⟩
  | .hbm, ⟨84, _⟩ => ⟨S1024x1x1, .i32⟩
  | .hbm, ⟨85, _⟩ => ⟨S1024x1x1, .i1⟩
  | .hbm, ⟨86, _⟩ => ⟨S1x1x1, .i32⟩
  | .hbm, ⟨87, _⟩ => ⟨S1024x1x1, .i32⟩
  | .hbm, ⟨88, _⟩ => ⟨S1024x1x1, .i1⟩
  | .hbm, ⟨89, _⟩ => ⟨S1024x1x1, .i1⟩
  | .hbm, ⟨90, _⟩ => ⟨S_, .i1⟩
  | .hbm, ⟨91, _⟩ => ⟨S1024x1, .i1⟩
  | .hbm, ⟨92, _⟩ => ⟨S1024x1, .f32⟩
  | .hbm, ⟨93, _⟩ => ⟨S_, .f32⟩
  | .hbm, ⟨94, _⟩ => ⟨S1024x1, .f32⟩
  | .hbm, ⟨95, _⟩ => ⟨S1024x1, .f32⟩
  | _, _ => ⟨S1024x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_c : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_while0c_c_7 : Ref sig .tc := ⟨.hbm, 26, rfl⟩
abbrev main_while0c_v22 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v22 : Ref sig .tc := ⟨.hbm, 31, rfl⟩
abbrev main_while0b_v23 : Ref sig .tc := ⟨.hbm, 32, rfl⟩
abbrev main_while0b_v24 : Ref sig .tc := ⟨.hbm, 33, rfl⟩
abbrev main_while0b_v25 : Ref sig .tc := ⟨.hbm, 34, rfl⟩
abbrev main_while0b_v26 : Ref sig .tc := ⟨.hbm, 35, rfl⟩
abbrev main_while0b_v27 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_cst_7 : Ref sig .tc := ⟨.hbm, 40, rfl⟩
abbrev main_while0b_v31 : Ref sig .tc := ⟨.hbm, 41, rfl⟩
abbrev main_while0b_v32 : Ref sig .tc := ⟨.hbm, 42, rfl⟩
abbrev main_while0b_v33 : Ref sig .tc := ⟨.hbm, 43, rfl⟩
abbrev main_while0b_v34 : Ref sig .tc := ⟨.hbm, 44, rfl⟩
abbrev main_while0b_v35 : Ref sig .tc := ⟨.hbm, 45, rfl⟩
abbrev main_while0b_v36 : Ref sig .tc := ⟨.hbm, 46, rfl⟩
abbrev main_while0b_cst_8 : Ref sig .tc := ⟨.hbm, 47, rfl⟩
abbrev main_while0b_v37 : Ref sig .tc := ⟨.hbm, 48, rfl⟩
abbrev main_while0b_v38 : Ref sig .tc := ⟨.hbm, 49, rfl⟩
abbrev main_while0b_v39 : Ref sig .tc := ⟨.hbm, 50, rfl⟩
abbrev main_while0b_cst_9 : Ref sig .tc := ⟨.hbm, 51, rfl⟩
abbrev main_while0b_v40 : Ref sig .tc := ⟨.hbm, 52, rfl⟩
abbrev main_while0b_v41 : Ref sig .tc := ⟨.hbm, 53, rfl⟩
abbrev main_while0b_v42 : Ref sig .tc := ⟨.hbm, 54, rfl⟩
abbrev main_while0b_v43 : Ref sig .tc := ⟨.hbm, 55, rfl⟩
abbrev main_while0b_v44 : Ref sig .tc := ⟨.hbm, 56, rfl⟩
abbrev main_while0b_v45 : Ref sig .tc := ⟨.hbm, 57, rfl⟩
abbrev main_while0b_cst_10 : Ref sig .tc := ⟨.hbm, 58, rfl⟩
abbrev main_while0b_v46 : Ref sig .tc := ⟨.hbm, 59, rfl⟩
abbrev main_while0b_v47 : Ref sig .tc := ⟨.hbm, 60, rfl⟩
abbrev main_while0b_v48 : Ref sig .tc := ⟨.hbm, 61, rfl⟩
abbrev main_while0b_call1_v0 : Ref sig .tc := ⟨.hbm, 62, rfl⟩
abbrev main_while0b_call1_c : Ref sig .tc := ⟨.hbm, 63, rfl⟩
abbrev main_while0b_v49 : Ref sig .tc := ⟨.hbm, 64, rfl⟩
abbrev main_while0b_c_11 : Ref sig .tc := ⟨.hbm, 65, rfl⟩
abbrev main_while0b_v50 : Ref sig .tc := ⟨.hbm, 66, rfl⟩
abbrev main_v15 : Ref sig .tc := ⟨.hbm, 67, rfl⟩
abbrev main_v16 : Ref sig .tc := ⟨.hbm, 68, rfl⟩
abbrev main_c_2 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v21 : Ref sig .tc := ⟨.hbm, 95, rfl⟩

abbrev nD : Nat := 1
abbrev τ : Topo := Topo.v7x

variable {F : FTy → Type} [FloatOps F]

abbrev main_while0_count : Scf.Loop 32 := ⟨0#32, 511#32, 1#32⟩
-- ==== Proof.Math.lean ====
/-
  The mathematics both programs compute, over the reals. `alpha f tr t i` is the forward score of tag `i` at time `t`:
  the sum over all tag paths that end in `i` of the product of the exponentiated scores along the path; `total` is its sum
  over the tags. The reference carries `log alpha`; the kernel carries `alpha` times a positive factor. Scores are extended
  reals below infinity; a score of minus infinity has weight 0.
-/
module

public import Idealize.ShloMosaic.PureOps.Ideal
public import Idealize.ShloMosaic.Lib.IdealHost

@[expose] public section

noncomputable section

namespace Cert.Crf

open Idealize.ShloMosaic

/-- The weight of a score: its exponential, as a real number. -/
def w (x : EReal) : ℝ := (Ideal.exp x).toReal

/-- The weight of a real score. -/
theorem w_coe (r : ℝ) : w (r : EReal) = Real.exp r := rfl

/-- The weight of −∞ is zero. -/
theorem w_bot : w ⊥ = 0 := rfl

/-- A weight is not negative. -/
theorem w_nonneg (x : EReal) : 0 ≤ w x := by
  induction x with
  | bot => exact le_refl 0
  | top => exact le_refl 0
  | coe r => exact (Real.exp_pos r).le

/-- Below infinity the exponential is the weight. -/
theorem exp_eq {x : EReal} (h : x ≠ ⊤) : Ideal.exp x = (w x : EReal) := by
  induction x with
  | bot => rfl
  | top => exact absurd rfl h
  | coe r => rfl

/-- The weight of a sum of two scores is the product of their weights. -/
theorem w_add {x y : EReal} (hx : x ≠ ⊤) (hy : y ≠ ⊤) : w (x + y) = w x * w y := by
  induction x with
  | top => exact absurd rfl hx
  | bot => rw [EReal.bot_add, w_bot, zero_mul]
  | coe r =>
    induction y with
    | top => exact absurd rfl hy
    | bot => rw [EReal.add_bot, w_bot, mul_zero]
    | coe s => rw [← EReal.coe_add, w_coe, w_coe, w_coe, Real.exp_add]

/-- The logarithm of a real number that is not positive. -/
theorem log_nonpos {r : ℝ} (h : r ≤ 0) : Ideal.log (r : EReal) = ⊥ := if_pos h

/-- The logarithm of a positive real number. -/
theorem log_pos {r : ℝ} (h : 0 < r) : Ideal.log (r : EReal) = (Real.log r : EReal) := if_neg (not_le.2 h)

/-- The logarithm of zero is −∞. -/
theorem log_zero : Ideal.log (0 : EReal) = ⊥ := log_nonpos (le_refl (0 : ℝ))

/-- The logarithm of a real number is below infinity. -/
theorem log_ne_top (r : ℝ) : Ideal.log (r : EReal) ≠ ⊤ := by
  rcases le_or_gt r 0 with h | h
  · rw [log_nonpos h]; exact bot_ne_top
  · rw [log_pos h]; exact EReal.coe_ne_top _

/-- The logarithm undoes the weight. -/
theorem log_w {x : EReal} (h : x ≠ ⊤) : Ideal.log (w x : EReal) = x := by
  induction x with
  | top => exact absurd rfl h
  | bot => exact log_nonpos (le_refl 0)
  | coe r => rw [w_coe, log_pos (Real.exp_pos r), Real.log_exp]

/-- The weight undoes the logarithm of a number that is not negative. -/
theorem w_log {r : ℝ} (h : 0 ≤ r) : w (Ideal.log (r : EReal)) = r := by
  rcases h.eq_or_lt with rfl | h
  · rw [log_nonpos (le_refl 0), w_bot]
  · rw [log_pos h, w_coe, Real.exp_log h]

/-- The embedding of the reals takes finite sums to finite sums. -/
theorem coe_sum {n : ℕ} (g : Fin n → ℝ) : (∑ i, (g i : EReal)) = ((∑ i, g i : ℝ) : EReal) := by
  induction n with
  | zero => rw [Fin.sum_univ_zero, Fin.sum_univ_zero]; rfl
  | succ n ih => rw [Fin.sum_univ_castSucc, Fin.sum_univ_castSucc, ih, EReal.coe_add]

/-! ## The logarithm of a sum of exponentials -/

/-- The stable form of the logarithm of a sum of exponentials, which subtracts the maximum first, is the logarithm of the
    sum of the weights. Where every score is minus infinity both are minus infinity. -/
theorem lse {n : ℕ} (x : Fin n → EReal) (hx : ∀ i, x i ≠ ⊤) (M : EReal) (hle : ∀ i, x i ≤ M) (hM : M = ⊥ ∨ ∃ i, M = x i) :
    M + Ideal.log (∑ i, Ideal.exp (x i - M)) = Ideal.log ((∑ i, w (x i) : ℝ) : EReal) := by
  by_cases hb : M = ⊥
  · subst hb
    have h0 : (∑ i, w (x i) : ℝ) = 0 := Finset.sum_eq_zero fun i _ => by rw [le_bot_iff.1 (hle i), w_bot]
    rw [EReal.bot_add, h0, log_nonpos (le_refl 0)]
  · obtain ⟨k, hk⟩ := hM.resolve_left hb
    have hMt : M ≠ ⊤ := hk ▸ hx k
    lift M to ℝ using ⟨hMt, hb⟩
    have hneg : (-(M : EReal)) ≠ ⊤ := by rw [← EReal.coe_neg]; exact EReal.coe_ne_top _
    have hs : (∑ i, Ideal.exp (x i - (M : EReal))) = (((∑ i, w (x i)) * Real.exp (-M) : ℝ) : EReal) := by
      rw [Finset.sum_mul, ← coe_sum]
      refine Finset.sum_congr rfl fun i _ => ?_
      have hne : x i + -(M : EReal) ≠ ⊤ := EReal.add_ne_top (hx i) hneg
      rw [sub_eq_add_neg, exp_eq hne, w_add (hx i) hneg, ← EReal.coe_neg, w_coe]
    have hpos : 0 < ∑ i, w (x i) := by
      refine lt_of_lt_of_le (Real.exp_pos M) ?_
      have : w (x k) ≤ ∑ i, w (x i) := Finset.single_le_sum (f := fun i => w (x i)) (fun i _ => w_nonneg _) (Finset.mem_univ k)
      rwa [← hk, w_coe] at this
    rw [hs, log_pos (mul_pos hpos (Real.exp_pos _)), log_pos hpos, Real.log_mul hpos.ne' (Real.exp_pos _).ne', Real.log_exp,
      ← EReal.coe_add]
    congr 1
    ring

/-! ## The forward recursion -/

section Alpha

variable (f : ℕ → Fin 64 → EReal) (tr : Fin 64 → Fin 64 → EReal)

/-- The forward score of every tag at a time. -/
def alpha : ℕ → Fin 64 → ℝ
  | 0 => fun i => w (f 0 i)
  | t + 1 => fun i => (∑ j, w (tr i j) * alpha t j) * w (f (t + 1) i)

/-- The sum of the forward scores at a time. -/
def total (t : ℕ) : ℝ := ∑ i, alpha f tr t i

/-- The forward scores are not negative. -/
theorem alpha_nonneg (t : ℕ) (i : Fin 64) : 0 ≤ alpha f tr t i := by
  induction t generalizing i with
  | zero => exact w_nonneg _
  | succ t ih => exact mul_nonneg (Finset.sum_nonneg fun j _ => mul_nonneg (w_nonneg _) (ih j)) (w_nonneg _)

/-- Their sum is not negative. -/
theorem total_nonneg (t : ℕ) : 0 ≤ total f tr t := Finset.sum_nonneg fun i _ => alpha_nonneg f tr t i

/-- What the kernel carries for one lane at time `t`: the forward scores times a positive factor, one over their sum, and
    the logarithm of the sum without the factor. -/
def Carried (t : ℕ) (U : Fin 64 → EReal) (r A : EReal) : Prop :=
  ∃ c : ℝ, 0 < c ∧ (∀ i, U i = ((c * alpha f tr t i : ℝ) : EReal)) ∧
    r = Ideal.div 1 ((c * total f tr t : ℝ) : EReal) ∧ A = Ideal.log ((total f tr t : ℝ) : EReal)

/-- The sum of scaled forward scores. -/
theorem sum_scaled (t : ℕ) (c : ℝ) (U : Fin 64 → EReal) (hU : ∀ i, U i = ((c * alpha f tr t i : ℝ) : EReal)) :
    (∑ i, U i) = ((c * total f tr t : ℝ) : EReal) := by
  rw [total, Finset.mul_sum, ← coe_sum]
  exact Finset.sum_congr rfl fun i _ => hU i

/-- The kernel's first time step. -/
theorem carried_zero (hf : ∀ i, f 0 i ≠ ⊤) (U : Fin 64 → EReal) (hU : ∀ i, U i = Ideal.exp (f 0 i)) :
    Carried f tr 0 U (Ideal.div 1 (∑ i, U i)) (Ideal.log (∑ i, U i)) := by
  have hU' : ∀ i, U i = ((1 * alpha f tr 0 i : ℝ) : EReal) := fun i => by rw [one_mul, hU, exp_eq (hf i)]; rfl
  have hs := sum_scaled f tr 0 1 U hU'
  exact ⟨1, one_pos, hU', by rw [hs], by rw [hs, one_mul]⟩

/-- The kernel's every later time step. -/
theorem carried_succ (t : ℕ) (hf : ∀ i, f (t + 1) i ≠ ⊤) (htr : ∀ i j, tr i j ≠ ⊤) (U : Fin 64 → EReal) (r A : EReal)
    (h : Carried f tr t U r A) (U' : Fin 64 → EReal)
    (hU' : ∀ i, U' i = (∑ j, Ideal.exp (tr i j) * U j) * (Ideal.exp (f (t + 1) i) * r)) :
    Carried f tr (t + 1) U' (Ideal.div 1 (∑ i, U' i)) (A + Ideal.log (∑ i, U' i)) := by
  obtain ⟨c, hc, hU, hr, hA⟩ := h
  have hS : ∀ i, (∑ j, Ideal.exp (tr i j) * U j) = ((c * ∑ j, w (tr i j) * alpha f tr t j : ℝ) : EReal) := fun i => by
    rw [Finset.mul_sum, ← coe_sum]
    refine Finset.sum_congr rfl fun j _ => ?_
    rw [hU, exp_eq (htr i j), ← EReal.coe_mul]
    congr 1
    ring
  rcases (total_nonneg f tr t).eq_or_lt with hz | hz
  · -- the sum is 0: every forward score is 0 and stays 0
    have ha : ∀ j, alpha f tr t j = 0 := fun j =>
      (Finset.sum_eq_zero_iff_of_nonneg fun i _ => alpha_nonneg f tr t i).1 hz.symm j (Finset.mem_univ j)
    have ha' : ∀ i, alpha f tr (t + 1) i = 0 := fun i => by
      show (∑ j, w (tr i j) * alpha f tr t j) * w (f (t + 1) i) = 0
      rw [Finset.sum_eq_zero fun j _ => by rw [ha j, mul_zero], zero_mul]
    have hU0 : ∀ i, U' i = ((1 * alpha f tr (t + 1) i : ℝ) : EReal) := fun i => by
      rw [hU', hS, ha', Finset.sum_eq_zero fun j _ => by rw [ha j, mul_zero], mul_zero, mul_zero, EReal.coe_zero, zero_mul]
    have hs := sum_scaled f tr (t + 1) 1 U' hU0
    have ht0 : total f tr (t + 1) = 0 := Finset.sum_eq_zero fun i _ => ha' i
    refine ⟨1, one_pos, hU0, by rw [hs], ?_⟩
    rw [hA, ← hz, log_nonpos (le_refl 0), EReal.bot_add, ht0, log_nonpos (le_refl 0)]
  · -- the sum is positive: the carried reciprocal is the real one
    have hcz : 0 < c * total f tr t := mul_pos hc hz
    have hr' : r = (((c * total f tr t)⁻¹ : ℝ) : EReal) := by
      rw [hr, Ideal.div, if_neg (by rw [← EReal.coe_zero]; exact fun e => hcz.ne' (EReal.coe_injective e)), one_mul, EReal.coe_inv]
    have hU1 : ∀ i, U' i = (((total f tr t)⁻¹ * alpha f tr (t + 1) i : ℝ) : EReal) := fun i => by
      rw [hU', hS, exp_eq (hf i), hr', ← EReal.coe_mul, ← EReal.coe_mul]
      congr 1
      show _ = (total f tr t)⁻¹ * ((∑ j, w (tr i j) * alpha f tr t j) * w (f (t + 1) i))
      field_simp
    have hs := sum_scaled f tr (t + 1) _ U' hU1
    refine ⟨_, inv_pos.2 hz, hU1, by rw [hs], ?_⟩
    rw [hA, hs, log_pos hz]
    rcases (total_nonneg f tr (t + 1)).eq_or_lt with hz' | hz'
    · rw [← hz', mul_zero, log_nonpos (le_refl 0), EReal.add_bot]
    · rw [log_pos (mul_pos (inv_pos.2 hz) hz'), log_pos hz', ← EReal.coe_add]
      congr 1
      rw [Real.log_mul (inv_pos.2 hz).ne' hz'.ne', Real.log_inv]
      ring

/-- The reference's next logarithm of a forward score: the logarithm of the sum of the weights of the three summed scores
    is the logarithm of the next forward score. -/
theorem log_alpha_succ (t : ℕ) (hf : ∀ i, f (t + 1) i ≠ ⊤) (htr : ∀ i j, tr i j ≠ ⊤) (i : Fin 64) :
    (∑ j, w (Ideal.log ((alpha f tr t j : ℝ) : EReal) + f (t + 1) i + tr i j)) = alpha f tr (t + 1) i := by
  show _ = (∑ j, w (tr i j) * alpha f tr t j) * w (f (t + 1) i)
  rw [Finset.sum_mul]
  refine Finset.sum_congr rfl fun j _ => ?_
  have h1 := log_ne_top (alpha f tr t j)
  rw [w_add (EReal.add_ne_top h1 (hf i)) (htr i j), w_add h1 (hf i), w_log (alpha_nonneg f tr t j)]
  ring

end Alpha

end Cert.Crf
-- ==== Proof.RefOps.lean ====
/-
  The reference's array operations over the extended reals, read an entry at a time.
-/
module

public import proofs.«01_k».proof.Proof.Gen.ReferenceIdeal.Run
public import proofs.«01_k».proof.Proof.Math
public import Idealize.ShloMosaic.Lib.Pointwise
public import Idealize.ShloMosaic.Lib.DynamicIndex
public import Idealize.ShloMosaic.Lib.Pipeline.Value

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Crf

/-! ## The log of a sum of exponentials, shifted by the greatest entry -/

/-- The greatest of finitely many entries, from −∞ on: no entry is above it, and it is −∞ or one of them. -/
theorem fold_max_spec {n : ℕ} (x : Fin n → EReal) :
    (∀ i, x i ≤ (Finset.univ : Finset (Fin n)).fold max ⊥ x) ∧
      ((Finset.univ : Finset (Fin n)).fold max ⊥ x = ⊥ ∨ ∃ i, (Finset.univ : Finset (Fin n)).fold max ⊥ x = x i) := by
  refine ⟨fun i => (Finset.le_fold_max _).2 (.inr ⟨i, Finset.mem_univ i, le_rfl⟩), ?_⟩
  suffices h : ∀ s : Finset (Fin n), s.fold max ⊥ x = ⊥ ∨ ∃ i, s.fold max ⊥ x = x i from h _
  intro s
  induction s using Finset.induction with
  | empty => exact .inl Finset.fold_empty
  | insert a s ha ih =>
    rw [Finset.fold_insert ha]
    rcases le_total (x a) (s.fold max ⊥ x) with h | h
    · rw [max_eq_right h]; exact ih
    · rw [max_eq_left h]; exact .inr ⟨a, rfl⟩

/-- The pattern of −∞ names −∞. -/
theorem negInf_read : Ideal.ofBits FTy.f32 0xFF800000#32 = ⊥ := by
  simp [Ideal.ofBits, Ideal.ieee]

/-- The greatest entry of each row of 64. -/
def rowMax (x : FVec Ideal S1024x64 .f32) : FVec Ideal S1024 .f32 :=
  Host.reduce FloatOps.maximumf x (constant S_ .f32 0xFF800000#32) reducesTo_S1024x64_S1024_d1 h_S_

/-- A row's greatest entry, from −∞ on. -/
theorem rowMax_apply (x : FVec Ideal S1024x64 .f32) (b : Fin 1024) :
    rowMax x (ix1 b) = (Finset.univ : Finset (Fin 64)).fold max ⊥ fun j => x (ix2 b j) := by
  unfold rowMax
  pointwise
  rw [negInf_read]

/-- Each row's log of the sum of exponentials, as the program writes it. -/
def rowLse (x : FVec Ideal S1024x64 .f32) : FVec Ideal S1024 .f32 :=
  addf (shapeCast S1024 (broadcastInDim S1024x1 ![0] bcast_S1024_S1024x1_0 (rowMax x)) shapeCasts_S1024x1_S1024)
    (Host.log (Host.reduceAdd (Host.exp (subf x (broadcastInDim S1024x64 ![0, 1] bcast_S1024x1_S1024x64_0_1
      (broadcastInDim S1024x1 ![0] bcast_S1024_S1024x1_0 (rowMax x))))) (constant S_ .f32 0x00000000#32) reducesTo_S1024x64_S1024_d1 h_S_))

/-- A row's log of the sum of exponentials, shifted by its greatest entry. -/
theorem rowLse_read (x : FVec Ideal S1024x64 .f32) (b : Fin 1024) :
    rowLse x (ix1 b) = rowMax x (ix1 b) + Ideal.log (∑ j : Fin 64, Ideal.exp (x (ix2 b j) - rowMax x (ix1 b))) := by
  unfold rowLse
  pointwise

/-- The greatest along the last axis of 64. -/
def pairMax (x : FVec Ideal S1024x64x64 .f32) : FVec Ideal S1024x64 .f32 :=
  Host.reduce FloatOps.maximumf x (constant S_ .f32 0xFF800000#32) reducesTo_S1024x64x64_S1024x64_d2 h_S_

/-- The greatest along the last axis at one entry, from −∞ on. -/
theorem pairMax_apply (x : FVec Ideal S1024x64x64 .f32) (b : Fin 1024) (i : Fin 64) :
    pairMax x (ix2 b i) = (Finset.univ : Finset (Fin 64)).fold max ⊥ fun j => x (ix3 b i j) := by
  unfold pairMax
  pointwise
  rw [negInf_read]

/-- The log of the sum of exponentials along the last axis, as the program writes it. -/
def pairLse (x : FVec Ideal S1024x64x64 .f32) : FVec Ideal S1024x64 .f32 :=
  addf (shapeCast S1024x64 (broadcastInDim S1024x64x1 ![0, 1] bcast_S1024x64_S1024x64x1_0_1 (pairMax x)) shapeCasts_S1024x64x1_S1024x64)
    (Host.log (Host.reduceAdd (Host.exp (subf x (broadcastInDim S1024x64x64 ![0, 1, 2] bcast_S1024x64x1_S1024x64x64_0_1_2
      (broadcastInDim S1024x64x1 ![0, 1] bcast_S1024x64_S1024x64x1_0_1 (pairMax x))))) (constant S_ .f32 0x00000000#32)
      reducesTo_S1024x64x64_S1024x64_d2 h_S_))

/-- A matrix given a last axis of one and cast back is itself. -/
theorem pairCol_apply (v : FVec Ideal S1024x64 .f32) (b : Fin 1024) (i : Fin 64) :
    shapeCast S1024x64 (broadcastInDim S1024x64x1 ![0, 1] bcast_S1024x64_S1024x64x1_0_1 v) shapeCasts_S1024x64x1_S1024x64 (ix2 b i) = v (ix2 b i) := by
  pointwise

/-- A matrix laid along a last axis of 64. -/
theorem pairBcast_apply (v : FVec Ideal S1024x64 .f32) (b : Fin 1024) (i j : Fin 64) :
    broadcastInDim S1024x64x64 ![0, 1, 2] bcast_S1024x64x1_S1024x64x64_0_1_2
      (broadcastInDim S1024x64x1 ![0, 1] bcast_S1024x64_S1024x64x1_0_1 v) (ix3 b i j) = v (ix2 b i) := by
  pointwise

/-- A sum along the last axis. -/
theorem pairSum_apply (y : FVec Ideal S1024x64x64 .f32) (b : Fin 1024) (i : Fin 64) :
    Host.reduceAdd y (constant S_ .f32 0x00000000#32) reducesTo_S1024x64x64_S1024x64_d2 h_S_ (ix2 b i) = ∑ j : Fin 64, y (ix3 b i j) := by
  pointwise

/-- A sum of a value and a logarithm, at an index. -/
theorem add_log_apply {s : Shape} (p q : FVec Ideal s .f32) (y : s.Idx) : addf p (Host.log q) y = p y + Ideal.log (q y) := rfl

/-- The exponential of a difference, at an index. -/
theorem exp_sub_apply {s : Shape} (p q : FVec Ideal s .f32) (y : s.Idx) : Host.exp (subf p q) y = Ideal.exp (p y - q y) := rfl

/-- The log of a sum of exponentials at one entry, shifted by the greatest along the last axis. -/
theorem pairLse_read (x : FVec Ideal S1024x64x64 .f32) (b : Fin 1024) (i : Fin 64) :
    pairLse x (ix2 b i) = pairMax x (ix2 b i) + Ideal.log (∑ j : Fin 64, Ideal.exp (x (ix3 b i j) - pairMax x (ix2 b i))) := by
  unfold pairLse
  generalize pairMax x = M
  rw [add_log_apply, pairCol_apply, pairSum_apply]
  refine congrArg (fun r => M (ix2 b i) + Ideal.log r) (Finset.sum_congr rfl fun j _ => ?_)
  rw [exp_sub_apply, pairBcast_apply M b i j]

/-- A row's log of the sum of exponentials, for entries below +∞. -/
theorem rowLse_apply (x : FVec Ideal S1024x64 .f32) (b : Fin 1024) (hx : ∀ j, x (ix2 b j) ≠ ⊤) :
    rowLse x (ix1 b) = Ideal.log ((∑ j : Fin 64, w (x (ix2 b j)) : ℝ) : EReal) := by
  rw [rowLse_read, rowMax_apply]
  have h := fold_max_spec fun j : Fin 64 => x (ix2 b j)
  exact lse _ hx _ h.1 h.2

/-- The log of the sum of exponentials along the last axis, for entries below +∞. -/
theorem pairLse_apply (x : FVec Ideal S1024x64x64 .f32) (b : Fin 1024) (i : Fin 64) (hx : ∀ j, x (ix3 b i j) ≠ ⊤) :
    pairLse x (ix2 b i) = Ideal.log ((∑ j : Fin 64, w (x (ix3 b i j)) : ℝ) : EReal) := by
  rw [pairLse_read, pairMax_apply]
  have h := fold_max_spec fun j : Fin 64 => x (ix3 b i j)
  exact lse _ hx _ h.1 h.2

/-! ## The operations around the loop -/

/-- The emissions with the time axis first. -/
def byTime (feats : FVec Ideal S1024x512x64 .f32) : FVec Ideal S512x1024x64 .f32 :=
  transpose S512x1024x64 [1, 0, 2] feats transposes_S1024x512x64_S512x1024x64_1_0_2

/-- The emissions of the first time step. -/
def firstScores (feats : FVec Ideal S1024x512x64 .f32) : FVec Ideal S1024x64 .f32 :=
  shapeCast S1024x64 (extractStridedSlice S1x1024x64 ![0, 0, 0] (byTime feats) slices_S512x1024x64_S1x1024x64_0_0_0) shapeCasts_S1x1024x64_S1024x64

/-- The emissions of the later time steps. -/
def laterScores (feats : FVec Ideal S1024x512x64 .f32) : FVec Ideal S511x1024x64 .f32 :=
  extractStridedSlice S511x1024x64 ![1, 0, 0] (byTime feats) slices_S512x1024x64_S511x1024x64_1_0_0

/-- The first step's emission of a lane and tag. -/
theorem firstScores_apply (feats : FVec Ideal S1024x512x64 .f32) (b : Fin 1024) (i : Fin 64) :
    firstScores feats (ix2 b i) = feats (ix3 b 0 i) := by
  unfold firstScores byTime
  pointwise

/-- A later step's emission of a lane and tag. -/
theorem laterScores_apply (feats : FVec Ideal S1024x512x64 .f32) (t : ℕ) (ht : t < 511) (b : Fin 1024) (i : Fin 64) :
    laterScores feats (ix3 ⟨t, ht⟩ b i) = feats (ix3 b ⟨t + 1, by omega⟩ i) := by
  unfold laterScores byTime
  pointwise
  exact congrArg (fun t' => feats (ix3 b t' i)) (Fin.ext (Nat.add_comm 1 t))

/-- The table of answers by lane: row 0 in front of the rows the loop stored, transposed. -/
def answerTable (v : FVec Ideal S1024 .f32) (O : FVec Ideal S511x1024 .f32) : FVec Ideal S1024x512 .f32 :=
  transpose S1024x512 [1, 0] (concatenate S512x1024 0 [⟨S1x1024, broadcastInDim S1x1024 ![1] bcast_S1024_S1x1024_1 v⟩, ⟨S511x1024, O⟩]
    concatenates_S1x1024_S511x1024_S512x1024_d0) transposes_S512x1024_S1024x512_1_0

/-- The first column of the table is the row put in front. -/
theorem answerTable_zero (v : FVec Ideal S1024 .f32) (O : FVec Ideal S511x1024 .f32) (b : Fin 1024) :
    answerTable v O (ix2 b 0) = v (ix1 b) := by
  unfold answerTable
  pointwise

/-- The later columns of the table are the stored rows. -/
theorem answerTable_succ (v : FVec Ideal S1024 .f32) (O : FVec Ideal S511x1024 .f32) (b : Fin 1024) (t : ℕ) (ht : t < 511) :
    answerTable v O (ix2 b ⟨t + 1, by omega⟩) = O (ix2 ⟨t, ht⟩ b) := by
  unfold answerTable
  pointwise
  exact dif_neg (by omega)

/-- The column of last time indices. -/
def lastColumn (len : IVec S1024 32) : IVec S1024x1 32 :=
  broadcastInDim S1024x1 ![0] bcast_S1024_S1024x1_0 (subi len (broadcastInDim S1024 ![] bcast_S_S1024 (constantI S_ 32 1#32)))

/-- A lane's last time index is its length less one. -/
theorem lastColumn_apply (len : IVec S1024 32) (b : Fin 1024) : lastColumn len (ix2 b 0) = len (ix1 b) - 1#32 := by
  unfold lastColumn
  pointwise
  rfl

/-- The start indices of the lookup: a negative index counted from the end. -/
def lookupStarts (c : IVec S1024x1 32) : IVec S1024x1x1 32 :=
  shapeCast S1024x1x1 (select (cmpi .slt c (broadcastInDim S1024x1 ![] bcast_S_S1024x1 (constantI S_ 32 0#32)))
    (addi c (broadcastInDim S1024x1 ![] bcast_S_S1024x1 (constantI S_ 32 512#32))) c) shapeCasts_S1024x1_S1024x1x1

/-- An index that is not negative is its own start. -/
theorem lookupStarts_apply (c : IVec S1024x1 32) (b : Fin 1024) (h : 0 ≤ (c (ix2 b 0)).toInt) :
    lookupStarts c (ix3 b 0 0) = c (ix2 b 0) := by
  unfold lookupStarts
  pointwise
  have hlt : (c (ix2 b 0)).slt 0#32 = false := by
    rw [BitVec.slt, decide_eq_false_iff_not, BitVec.toInt_zero]
    omega
  show (if BitVec.ofBool ((c (ix2 b 0)).slt 0#32) = 1 then _ else _) = _
  rw [hlt]
  rfl

/-- Which start indices lie in the table. -/
def lookupInside (i : IVec S1024x1x1 32) : IVec S1024x1 1 :=
  Host.reduce IntOp.andi (andi (cmpi .sge i (broadcastInDim S1024x1x1 ![] bcast_S_S1024x1x1 (constantI S_ 32 0#32)))
    (cmpi .sle i (broadcastInDim S1024x1x1 ![0, 1, 2] bcast_S1x1x1_S1024x1x1_0_1_2 (broadcastInDim S1x1x1 ![2] bcast_S1_S1x1x1_2 (constantI S1 32 511#32)))))
    (constantI S_ 1 1#1) reducesTo_S1024x1x1_S1024x1_d2 h_S_

/-- An index from 0 to 511 lies in the table. -/
theorem lookupInside_apply (i : IVec S1024x1x1 32) (b : Fin 1024) (h0 : 0 ≤ (i (ix3 b 0 0)).toInt) (h1 : (i (ix3 b 0 0)).toInt ≤ 511) :
    lookupInside i (ix2 b 0) = 1#1 := by
  unfold lookupInside
  pointwise
  have e0 : (0#32 : BitVec 32).sle (i (ix3 b 0 0)) = true := by
    rw [BitVec.sle, decide_eq_true_eq, BitVec.toInt_zero]
    exact h0
  have e1 : (i (ix3 b 0 0)).sle 511#32 = true := by
    rw [BitVec.sle, decide_eq_true_eq]
    exact h1
  rw [Finset.univ_unique, Finset.fold_singleton]
  show (BitVec.ofBool ((0#32 : BitVec 32).sle (i (ix3 b 0 0))) &&& BitVec.ofBool ((i (ix3 b 0 0)).sle 511#32)) &&& 1#1 = 1#1
  rw [e0, e1]
  rfl

/-- The lookup of a table's row at its start index. -/
theorem lookup_apply (x : FVec Ideal S1024x512 .f32) (i : IVec S1024x1x1 32) (b : Fin 1024) (n : ℕ) (hn : n < 512)
    (h : (i (ix3 b 0 0)).toInt = n) :
    Host.gather gather_S1024x512_S1024x1x1_S1024x1_n_1_0_0_1_2_11 x i (ix2 b 0) = x (ix2 b ⟨n, hn⟩) := by
  have e : GatherDims.siIdx gather_S1024x512_S1024x1x1_S1024x1_n_1_0_0_1_2_11 (ix2 b 0) ⟨0, by decide⟩ = ix3 b 0 0 :=
    funext fun a => Fin.ext (match a with
      | ⟨0, _⟩ => rfl
      | ⟨1, _⟩ => rfl
      | ⟨2, _⟩ => rfl)
  refine congrArg x (funext fun a => Fin.ext (match a with
    | ⟨0, _⟩ => ?_
    | ⟨1, _⟩ => ?_))
  · show 0 + b.val + 0 = b.val
    omega
  · show min (i (GatherDims.siIdx gather_S1024x512_S1024x1x1_S1024x1_n_1_0_0_1_2_11 (ix2 b 0) ⟨0, _⟩)).toInt.toNat (512 - 1) + 0 + 0 = n
    rw [e, h]
    omega

/-! ## One trip's scores -/

/-- The score of every pair of tags at trip `k`: the carried value of the first, the emission of the second, and the transition. -/
def pairScores (X : FVec Ideal S511x1024x64 .f32) (T : FVec Ideal S64x64 .f32) (k : IVec S_ 32) (fv : FVec Ideal S1024x64 .f32) :
    FVec Ideal S1024x64x64 .f32 :=
  addf (addf (broadcastInDim S1024x64x64 ![0, 1, 2] bcast_S1024x1x64_S1024x64x64_0_1_2 (broadcastInDim S1024x1x64 ![0, 2] bcast_S1024x64_S1024x1x64_0_2 fv)) (broadcastInDim S1024x64x64 ![0, 1, 2] bcast_S1024x64x1_S1024x64x64_0_1_2 (broadcastInDim S1024x64x1 ![0, 1] bcast_S1024x64_S1024x64x1_0_1 (shapeCast S1024x64 (Host.dynamicSlice S1x1024x64 X (fun a => (((![k, constantI S_ 32 0#32, constantI S_ 32 0#32] : Fin 3 → IVec S_ 32)) a (Shape.Idx.first h_S_)).toInt) sliceFits_S511x1024x64_S1x1024x64) shapeCasts_S1x1024x64_S1024x64)))) (broadcastInDim S1024x64x64 ![0, 1, 2] bcast_S1x64x64_S1024x64x64_0_1_2 (broadcastInDim S1x64x64 ![1, 2] bcast_S64x64_S1x64x64_1_2 T))

/-- The slice of the emissions a trip reads: row `n`. -/
theorem trip_slice (X : FVec Ideal S511x1024x64 .f32) (n : ℕ) (hn : n < 511) (b : Fin 1024) (i : Fin 64) :
    Host.dynamicSlice S1x1024x64 X (fun a => (((![fun _ => BitVec.ofNat 32 n, constantI S_ 32 0#32, constantI S_ 32 0#32] : Fin 3 → IVec S_ 32)) a (Shape.Idx.first h_S_)).toInt) sliceFits_S511x1024x64_S1x1024x64 (ix3 0 b i)
      = X (ix3 ⟨n, hn⟩ b i) := by
  have hf : S511x1024x64.Slices ![n, 0, 0] S1x1024x64 := ⟨rfl, fun a => match a with
    | ⟨0, _⟩ => show n + 1 ≤ 511 by omega
    | ⟨1, _⟩ => show 0 + 1024 ≤ 1024 by omega
    | ⟨2, _⟩ => show 0 + 64 ≤ 64 by omega⟩
  rw [Host.dynamicSlice_eq_extractStridedSlice S1x1024x64 X _ ![n, 0, 0] _ hf fun a => match a with
    | ⟨0, _⟩ => toInt_ofNat_of_lt (by omega)
    | ⟨1, _⟩ => rfl
    | ⟨2, _⟩ => rfl]
  exact congrArg X (funext fun a => Fin.ext (match a with
    | ⟨0, _⟩ => Nat.add_zero n
    | ⟨1, _⟩ => Nat.zero_add _
    | ⟨2, _⟩ => Nat.zero_add _))

/-- The score of one pair of tags at trip `n`. -/
theorem pairScores_apply (X : FVec Ideal S511x1024x64 .f32) (T : FVec Ideal S64x64 .f32) (n : ℕ) (hn : n < 511) (fv : FVec Ideal S1024x64 .f32)
    (b : Fin 1024) (i j : Fin 64) :
    pairScores X T (fun _ => BitVec.ofNat 32 n) fv (ix3 b i j) = fv (ix2 b j) + X (ix3 ⟨n, hn⟩ b i) + T (ix2 i j) := by
  unfold pairScores
  pointwise [trip_slice X n hn]

/-- Row `n` of the table replaced by the row `v`. -/
theorem setRow_apply (O : FVec Ideal S511x1024 .f32) (v : FVec Ideal S1024 .f32) (n : ℕ) (hn : n < 511) (t : Fin 511) (b : Fin 1024) :
    Host.dynamicUpdateSlice O (broadcastInDim S1x1024 ![1] bcast_S1024_S1x1024_1 v) (fun a => (((![fun _ => BitVec.ofNat 32 n, constantI S_ 32 0#32] : Fin 2 → IVec S_ 32)) a (Shape.Idx.first h_S_)).toInt) updateFits_S511x1024_S1x1024 (ix2 t b)
      = if t.val = n then v (ix1 b) else O (ix2 t b) := by
  have hf : S511x1024.Slices ![n, 0] S1x1024 := ⟨rfl, fun a => match a with
    | ⟨0, _⟩ => show n + 1 ≤ 511 by omega
    | ⟨1, _⟩ => show 0 + 1024 ≤ 1024 by omega⟩
  rw [Host.dynamicUpdateSlice_eq_updateSlice O _ _ _ ![n, 0] (fun a => match a with
    | ⟨0, _⟩ => by
      show (min (max (BitVec.ofNat 32 n).toInt 0) ((511 - 1 : ℕ) : Int)).toNat = n
      rw [toInt_ofNat_of_lt (by omega)]; omega
    | ⟨1, _⟩ => rfl) hf]
  unfold updateSlice
  by_cases h : t.val = n
  · rw [if_pos h, dif_pos fun a => match a with
      | ⟨0, _⟩ => ⟨by show n ≤ t.val; omega, by show t.val < n + 1; omega⟩
      | ⟨1, _⟩ => ⟨Nat.zero_le _, by show b.val < 0 + 1024; omega⟩]
    have e : (fun c => ⟨((ix2 t b : S511x1024.Idx) (c.cast hf.1)).val - (![n, 0] : Fin 2 → ℕ) (c.cast hf.1), by
        match c with
        | ⟨0, _⟩ => show t.val - n < 1; omega
        | ⟨1, _⟩ => show b.val - 0 < 1024; omega⟩ : S1x1024.Idx) = ix2 0 b := funext fun c => Fin.ext (match c with
      | ⟨0, _⟩ => by show t.val - n = 0; omega
      | ⟨1, _⟩ => Nat.sub_zero _)
    refine (congrArg (broadcastInDim S1x1024 ![1] bcast_S1024_S1x1024_1 v) e).trans ?_
    pointwise
  · rw [if_neg h, dif_neg]
    intro hc
    have := hc ⟨0, by decide⟩
    exact h (by have h1 : n ≤ t.val := this.1; have h2 : t.val < n + 1 := this.2; omega)

end Cert.ReferenceIdeal.Value
-- ==== Proof.KStep.lean ====
/-
  The kernel's body as a recursion. One grid point works through 32 time steps; each takes the carried quadruple (scaled
  forward vector `U`, reciprocal column sum `r`, running log-sum `A`, answers found so far `out`) to the next. The body is
  unrolled, so what it stores is one long expression: here that expression is folded back into `run`, the recursion of
  the one step.
-/
module

public import proofs.«01_k».proof.Proof.Gen.KernelIdeal.Frame
public import Idealize.ShloMosaic.Lib.Pipeline.Value
public import Idealize.ShloMosaic.Lib.Pipeline.ValueKit.Tiles
public import Idealize.ShloMosaic.Lib.Pointwise.TacticCore
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

/-- What the kernel carries from one time step to the next. -/
structure State (F : FTy → Type) [FloatOps F] where
  /-- the forward vector of every batch lane, scaled by a factor of the lane -/
  U : FVec F S64x1024 .f32
  /-- one over the sum of the lane's forward vector -/
  r : FVec F S1x1024 .f32
  /-- the logarithm of the unscaled sum -/
  A : FVec F S1x1024 .f32
  /-- the answer of each lane whose last time step has been reached -/
  out : FVec F S1x1024 .f32

/-- The state as the tuple a grid point's outputs are listed in. -/
def State.outs (s : State F) : Vec F S1x1024 .f32 × Vec F S64x1024 .f32 × Vec F S1x1024 .f32 × Vec F S1x1024 .f32 :=
  (s.out, s.U, s.r, s.A)

/-- The column sums of a tag-by-lane matrix, as one row. -/
def rowSum (U : FVec F S64x1024 .f32) : FVec F S1x1024 .f32 :=
  shapeCast S1x1024 (multiReduction .add [0] S1024 U 0x00000000#32 reduces_S64x1024_S1024 (.inl rfl) rfl) shapeCasts_S1024_S1x1024

/-- The exponentials of one time step's scores, tags down and lanes across. -/
def emit (fb : Vec F S1x1024x64 .f32) : FVec F S64x1024 .f32 :=
  exp (transpose S64x1024 [1, 0] (shapeCast S1024x64 fb shapeCasts_S1x1024x64_S1024x64) transposes_S1024x64_p1_0_S64x1024)

/-- One over the column sums. -/
def recip (U : FVec F S64x1024 .f32) : FVec F S1x1024 .f32 :=
  divf (broadcast S1x1024 (Scalar.ofBits .f32 0x3F800000#32)) (rowSum U)

/-- The next scaled forward vector: transition weights times the vector, each entry times its score weight and the
    carried reciprocal. -/
def stepU (E : FVec F S64x64 .f32) (fb : Vec F S1x1024x64 .f32) (U : FVec F S64x1024 .f32) (r : FVec F S1x1024 .f32) :
    FVec F S64x1024 .f32 :=
  mulf (matmul dot_S64x64_S64x1024_S64x1024_1_0_0_1_n_n none E U (constant S64x1024 .f32 0x00000000#32))
    (mulf (emit fb) (broadcastTo S64x1024 r broadcasts_S1x1024_S64x1024))

/-- The answers: a lane whose last time index is the word `w` takes the value `A`, the others keep `o`. -/
def pick (sl1 : IVec S1x1024 32) (w : BitVec 32) (A o : FVec F S1x1024 .f32) : FVec F S1x1024 .f32 :=
  select (cmpi .eq sl1 (broadcast S1x1024 w)) A o

/-- One time step, at the time word `w` and the scores `fb`. -/
def step (E : FVec F S64x64 .f32) (sl1 : IVec S1x1024 32) (w : BitVec 32) (fb : Vec F S1x1024x64 .f32) (s : State F) : State F where
  U := stepU E fb s.U s.r
  r := recip (stepU E fb s.U s.r)
  A := addf s.A (log (rowSum (stepU E fb s.U s.r)))
  out := pick sl1 w (addf s.A (log (rowSum (stepU E fb s.U s.r)))) s.out

/-- The very first time step, which starts from the scores alone. -/
def first (sl1 : IVec S1x1024 32) (fb : Vec F S1x1024x64 .f32) : State F where
  U := emit fb
  r := recip (emit fb)
  A := log (rowSum (emit fb))
  out := pick sl1 0#32 (log (rowSum (emit fb))) (broadcast S1x1024 (Scalar.ofBits .f32 0x00000000#32))

/-- The scores of the `k`-th time step of a block of 32. -/
def featBlk (x0 : Vec F S32x1024x64 .f32) (k : ℕ) : Vec F S1x1024x64 .f32 := fun j =>
  x0 fun a => ⟨((![k, 0, 0] : Fin 3 → ℕ) a + (j a : ℕ)) % S32x1024x64.size a, Nat.mod_lt _ (by fin_cases a <;> decide)⟩

/-- The state after `k` further time steps of the block, from the state `s` after the block's first. -/
def run (E : FVec F S64x64 .f32) (sl1 : IVec S1x1024 32) (w : BitVec 32) (x0 : Vec F S32x1024x64 .f32) (s : State F) : ℕ → State F
  | 0 => s
  | k + 1 => step E sl1 (Scalar.addi w (BitVec.ofNat 32 (k + 1))) (featBlk x0 (k + 1)) (run E sl1 w x0 s k)

/-- The last time index of every lane. -/
def lastIdx (x2 : Vec F S1x1024 .i32) : IVec S1x1024 32 := subi x2 (broadcast S1x1024 1#32)

/-- The word of a block's first time step. -/
def tword (i : grid0.Coords) : BitVec 32 := Scalar.muli (BitVec.ofNat 32 (i 0).val) 32#32

/-- The zero start of a matrix, by axis. -/
theorem hz2 : (![0, 0] : Fin 2 → Nat) = fun _ => 0 := funext fun a => by fin_cases a <;> rfl

/-- A load of one time step of the block, at offset `off`, reads that step's scores. -/
theorem ld_featBlk (x0 : Vec F S32x1024x64 .f32) (off : Fin 3 → ℕ) (k : ℕ) (h : off = ![k, 0, 0]) (inb) :
    View.ld (Val := Elt F) (S := S32x1024x64) (e' := .f32) x0 (Rect.unit (s := S32x1024x64) off S1x1024x64.size inb) = featBlk x0 k := by
  subst h
  funext x
  refine View.ld_unit_apply_of x0 _ _ inb x _ fun a => ?_
  have h1 := inb a
  have h2 : (x a : ℕ) < S1x1024x64.size a := (x a).isLt
  exact Nat.mod_eq_of_lt (by omega)

/-- The first read of a block starts at its first row. -/
theorem off1_eq (i : grid0.Coords) : k0_off1 i = ![0, 0, 0] := by
  unfold k0_off1
  simp [Scalar.subi, IntOp.subi, Scalar.indexCast]

/-- A later read of a block starts at the row its index names. -/
theorem off2_eq (i : grid0.Coords) (w : BitVec 32) : k0_off2 i w = ![w.toNat, 0, 0] := by
  unfold k0_off2
  have h : ∀ a b : BitVec 32, a + b - a = b := fun a b => by rw [BitVec.add_comm, BitVec.add_sub_cancel]
  simp only [Scalar.subi, Scalar.addi, IntOp.subi, IntOp.addi, Scalar.indexCast, h]

/-- The first read of a block is its row 0. -/
theorem ld_first (i : grid0.Coords) (x0 : Vec F S32x1024x64 .f32) (inb) :
    View.ld (Val := Elt F) (S := S32x1024x64) (e' := .f32) x0 (Rect.unit (s := S32x1024x64) (k0_off1 i) ![1, 1024, 64] inb) = featBlk x0 0 :=
  ld_featBlk x0 _ 0 (off1_eq i) inb

/-- A read at the zero start is the block's row 0. -/
theorem ld_zero (x0 : Vec F S32x1024x64 .f32) (inb) :
    View.ld (Val := Elt F) (S := S32x1024x64) (e' := .f32) x0 (Rect.unit (s := S32x1024x64) ![0, 0, 0] ![1, 1024, 64] inb) = featBlk x0 0 :=
  ld_featBlk x0 _ 0 rfl inb

/-- A later read of a block is the row its index names. -/
theorem ld_next (i : grid0.Coords) (w : BitVec 32) (x0 : Vec F S32x1024x64 .f32) (inb) :
    View.ld (Val := Elt F) (S := S32x1024x64) (e' := .f32) x0 (Rect.unit (s := S32x1024x64) (k0_off2 i w) ![1, 1024, 64] inb) = featBlk x0 w.toNat :=
  ld_featBlk x0 _ _ (off2_eq i w) inb

/-! ## Folding the stored expressions back into the recursion -/

section Fold

variable (E : FVec F S64x64 .f32) (sl1 : IVec S1x1024 32) (w : BitVec 32) (x0 : Vec F S32x1024x64 .f32) (s : State F)

/-- The exponentiated scores of a row, folded to their name. -/
theorem fold_emit (fb : Vec F S1x1024x64 .f32) (h : S1024x64.Transposes ([(1 : Fin 2), 0] : List (Fin 2)) S64x1024) :
    exp (transpose S64x1024 ([(1 : Fin 2), 0] : List (Fin 2)) (shapeCast S1024x64 fb shapeCasts_S1x1024x64_S1024x64) h) = emit fb := rfl

/-- The column sums, folded to their name. -/
theorem fold_rowSum (U : FVec F S64x1024 .f32) (h : S64x1024.Reduces ([0] : List (Fin 2)) S1024) (hc : S1024.ShapeCasts S1x1024) (h2)
    (h3 : (0#32 : BitVec 32) = 0#32) : shapeCast S1x1024 (multiReduction .add ([0] : List (Fin 2)) S1024 U 0x00000000#32 h h2 h3) hc = rowSum U := rfl

/-- The reciprocals of the column sums, folded to their name. -/
theorem fold_recip (U : FVec F S64x1024 .f32) :
    divf (broadcast S1x1024 (Scalar.ofBits .f32 0x3F800000#32)) (rowSum U) = recip U := rfl

/-- The next scaled forward vector, folded to its name. -/
theorem fold_stepU (fb : Vec F S1x1024x64 .f32) (U : FVec F S64x1024 .f32) (r : FVec F S1x1024 .f32) :
    mulf (matmul dot_S64x64_S64x1024_S64x1024_1_0_0_1_n_n none E U (constant S64x1024 .f32 0x00000000#32))
      (mulf (emit fb) (broadcastTo S64x1024 r broadcasts_S1x1024_S64x1024)) = stepU E fb U r := rfl

/-- The choice of the answer at a lane's last step, folded to its name. -/
theorem fold_pick (A o : FVec F S1x1024 .f32) : select (cmpi .eq sl1 (broadcast S1x1024 w)) A o = pick sl1 w A o := rfl

/-- The last time indices, folded to their name. -/
theorem fold_last (x2 : Vec F S1x1024 .i32) : subi x2 (broadcast S1x1024 1#32) = lastIdx x2 := rfl

/-- A block's first time index, folded to its name. -/
theorem fold_tword (i : grid0.Coords) : Scalar.muli (BitVec.ofNat 32 (i 0).val) 32#32 = tword i := rfl

/-- The next vector of the recursion, where the step's parts stand written out. -/
theorem run_U (k : ℕ) : stepU E (featBlk x0 (k + 1)) (run E sl1 w x0 s k).U (run E sl1 w x0 s k).r = (run E sl1 w x0 s (k + 1)).U := rfl

/-- The reciprocals after a step, folded back into the run. -/
theorem run_r (k : ℕ) : recip (run E sl1 w x0 s (k + 1)).U = (run E sl1 w x0 s (k + 1)).r := rfl

/-- The accumulated logarithms after a step, folded back into the run. -/
theorem run_A (k : ℕ) : addf (run E sl1 w x0 s k).A (log (rowSum (run E sl1 w x0 s (k + 1)).U)) = (run E sl1 w x0 s (k + 1)).A := rfl

/-- The answers after a step, folded back into the run. -/
theorem run_out (k : ℕ) : pick sl1 (Scalar.addi w (BitVec.ofNat 32 (k + 1))) (run E sl1 w x0 s (k + 1)).A (run E sl1 w x0 s k).out
    = (run E sl1 w x0 s (k + 1)).out := rfl

end Fold

section CaseA

variable (c : Dev nD) (i : grid0.Coords) (arg1 : Memref sig .tc .vmem S32x1024x64 .f32) (harg1 : arg1.IsWhole) (arg2 : Memref sig .tc .vmem S64x64 .f32) (harg2 : arg2.IsWhole)
    (arg3 : Memref sig .tc .vmem S1x1024 .i32) (harg3 : arg3.IsWhole) (arg4 : Memref sig .tc .vmem S1x1024 .f32) (harg4 : arg4.IsWhole) (arg5 : Memref sig .tc .vmem S64x1024 .f32) (harg5 : arg5.IsWhole)
    (arg6 : Memref sig .tc .vmem S1x1024 .f32) (harg6 : arg6.IsWhole) (arg7 : Memref sig .tc .vmem S1x1024 .f32) (harg7 : arg7.IsWhole) (hc0 : cond0_0 i) (hc1 : ¬cond0_1 i)
    (x0 : Vec F S32x1024x64 .f32) (x1 : Vec F S64x64 .f32) (x2 : Vec F S1x1024 .i32)

set_option maxHeartbeats 4000000 in
/-- The first grid point: the body leaves what 31 steps make of the first step's state. -/
theorem outs_A :
    (out0_A_3 c i arg1 harg1 arg2 harg2 arg3 harg3 arg4 harg4 arg5 harg5 arg6 harg6 arg7 harg7 hc0 hc1 x0 x1 x2, sout0_A_0 c i arg1 harg1 arg2 harg2 arg3 harg3 arg4 harg4 arg5 harg5 arg6 harg6 arg7 harg7 hc0 hc1 x0 x1 x2,
      sout0_A_1 c i arg1 harg1 arg2 harg2 arg3 harg3 arg4 harg4 arg5 harg5 arg6 harg6 arg7 harg7 hc0 hc1 x0 x1 x2, sout0_A_2 c i arg1 harg1 arg2 harg2 arg3 harg3 arg4 harg4 arg5 harg5 arg6 harg6 arg7 harg7 hc0 hc1 x0 x1 x2)
    = (run (exp x1) (lastIdx x2) (tword i) x0 (first (lastIdx x2) (featBlk x0 0)) 31).outs := by
  generalize hs : first (lastIdx x2) (featBlk x0 0) = s
  have hU : emit (featBlk x0 0) = (run (exp x1) (lastIdx x2) (tword i) x0 s 0).U := by rw [← hs]; rfl
  have hr : recip (run (exp x1) (lastIdx x2) (tword i) x0 s 0).U = (run (exp x1) (lastIdx x2) (tword i) x0 s 0).r := by rw [← hs]; rfl
  have hA : log (rowSum (run (exp x1) (lastIdx x2) (tword i) x0 s 0).U) = (run (exp x1) (lastIdx x2) (tword i) x0 s 0).A := by rw [← hs]; rfl
  have ho : pick (lastIdx x2) 0#32 (run (exp x1) (lastIdx x2) (tword i) x0 s 0).A (broadcast S1x1024 (Scalar.ofBits .f32 0x00000000#32)) = (run (exp x1) (lastIdx x2) (tword i) x0 s 0).out := by rw [← hs]; rfl
  unfold out0_A_3 sout0_A_0 sout0_A_1 sout0_A_2 State.outs
  rw [View.read_writes_eq_canon _ _ _ (cover0_A_3 c i arg1 harg1 arg2 harg2 arg3 harg3 arg4 harg4 arg5 harg5 arg6 harg6 arg7 harg7 hc0 hc1 x0 x1 x2),
    View.read_writes_eq_canon _ _ _ (scover0_A_0 c i arg1 harg1 arg2 harg2 arg3 harg3 arg4 harg4 arg5 harg5 arg6 harg6 arg7 harg7 hc0 hc1 x0 x1 x2),
    View.read_writes_eq_canon _ _ _ (scover0_A_1 c i arg1 harg1 arg2 harg2 arg3 harg3 arg4 harg4 arg5 harg5 arg6 harg6 arg7 harg7 hc0 hc1 x0 x1 x2),
    View.read_writes_eq_canon _ _ _ (scover0_A_2 c i arg1 harg1 arg2 harg2 arg3 harg3 arg4 harg4 arg5 harg5 arg6 harg6 arg7 harg7 hc0 hc1 x0 x1 x2)]
  unfold kernelRun0_A
  dsimp only
  rw [View.canon_cons_unit_zero (S := S64x1024) hz2, View.canon_cons_unit_zero (S := S1x1024) hz2,
    View.canon_cons_unit_zero (S := S1x1024) hz2, View.canon_cons_unit_zero (S := S1x1024) hz2]
  sl_unfold_run_names
  unfold_payloads
  simp only [View.readAt_eq_ld, harg1.read_unread, harg2.read_unread, harg3.read_unread, harg4.read_unread, harg5.read_unread,
    harg6.read_unread, harg7.read_unread, ld_first, ld_zero, ld_next, View.ld_unit_zero (S := S64x64) hz2,
    View.ld_unit_zero (S := S64x1024) hz2, View.ld_unit_zero (S := S1x1024) hz2, shapeCast_self,
    View.readCov_unit_zero (S := S64x1024) _ hz2, View.readCov_unit_zero (S := S1x1024) _ hz2, fold_last, fold_tword,
    fold_emit, fold_rowSum, fold_recip, fold_stepU, fold_pick, hU, hr, hA, ho, run_U, run_r, run_A, run_out, BitVec.reduceToNat]

end CaseA

section CaseB

variable (c : Dev nD) (i : grid0.Coords) (arg1 : Memref sig .tc .vmem S32x1024x64 .f32) (harg1 : arg1.IsWhole) (arg2 : Memref sig .tc .vmem S64x64 .f32) (harg2 : arg2.IsWhole)
    (arg3 : Memref sig .tc .vmem S1x1024 .i32) (harg3 : arg3.IsWhole) (arg4 : Memref sig .tc .vmem S1x1024 .f32) (harg4 : arg4.IsWhole) (arg5 : Memref sig .tc .vmem S64x1024 .f32) (harg5 : arg5.IsWhole)
    (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 : Vec F S32x1024x64 .f32) (x1 : Vec F S64x64 .f32) (x2 : Vec F S1x1024 .i32) (xo3 : Vec F S1x1024 .f32)
    (xs0 : Vec F S64x1024 .f32) (xs1 : Vec F S1x1024 .f32) (xs2 : Vec F S1x1024 .f32)

set_option maxHeartbeats 4000000 in
/-- A later grid point: the body leaves what 32 steps make of the state the point before left. -/
theorem outs_B :
    (out0_B_3 c i arg1 harg1 arg2 harg2 arg3 harg3 arg4 harg4 arg5 harg5 arg6 harg6 arg7 harg7 hc0 hc1 x0 x1 x2 xo3 xs0 xs1 xs2, sout0_B_0 c i arg1 harg1 arg2 harg2 arg3 harg3 arg4 harg4 arg5 harg5 arg6 harg6 arg7 harg7 hc0 hc1 x0 x1 x2 xo3 xs0 xs1 xs2,
      sout0_B_1 c i arg1 harg1 arg2 harg2 arg3 harg3 arg4 harg4 arg5 harg5 arg6 harg6 arg7 harg7 hc0 hc1 x0 x1 x2 xo3 xs0 xs1 xs2, sout0_B_2 c i arg1 harg1 arg2 harg2 arg3 harg3 arg4 harg4 arg5 harg5 arg6 harg6 arg7 harg7 hc0 hc1 x0 x1 x2 xo3 xs0 xs1 xs2)
    = (run (exp x1) (lastIdx x2) (tword i) x0 (step (exp x1) (lastIdx x2) (tword i) (featBlk x0 0) ⟨xs0, xs1, xs2, xo3⟩) 31).outs := by
  generalize hs : step (exp x1) (lastIdx x2) (tword i) (featBlk x0 0) ⟨xs0, xs1, xs2, xo3⟩ = s
  have hU : stepU (exp x1) (featBlk x0 0) xs0 xs1 = (run (exp x1) (lastIdx x2) (tword i) x0 s 0).U := by rw [← hs]; rfl
  have hr : recip (run (exp x1) (lastIdx x2) (tword i) x0 s 0).U = (run (exp x1) (lastIdx x2) (tword i) x0 s 0).r := by rw [← hs]; rfl
  have hA : addf xs2 (log (rowSum (run (exp x1) (lastIdx x2) (tword i) x0 s 0).U)) = (run (exp x1) (lastIdx x2) (tword i) x0 s 0).A := by rw [← hs]; rfl
  have ho : pick (lastIdx x2) (tword i) (run (exp x1) (lastIdx x2) (tword i) x0 s 0).A xo3 = (run (exp x1) (lastIdx x2) (tword i) x0 s 0).out := by rw [← hs]; rfl
  unfold out0_B_3 sout0_B_0 sout0_B_1 sout0_B_2 State.outs
  rw [View.read_writes_eq_canon _ _ _ (cover0_B_3 c i arg1 harg1 arg2 harg2 arg3 harg3 arg4 harg4 arg5 harg5 arg6 harg6 arg7 harg7 hc0 hc1 x0 x1 x2 xo3 xs0 xs1 xs2),
    View.read_writes_eq_canon _ _ _ (scover0_B_0 c i arg1 harg1 arg2 harg2 arg3 harg3 arg4 harg4 arg5 harg5 arg6 harg6 arg7 harg7 hc0 hc1 x0 x1 x2 xo3 xs0 xs1 xs2),
    View.read_writes_eq_canon _ _ _ (scover0_B_1 c i arg1 harg1 arg2 harg2 arg3 harg3 arg4 harg4 arg5 harg5 arg6 harg6 arg7 harg7 hc0 hc1 x0 x1 x2 xo3 xs0 xs1 xs2),
    View.read_writes_eq_canon _ _ _ (scover0_B_2 c i arg1 harg1 arg2 harg2 arg3 harg3 arg4 harg4 arg5 harg5 arg6 harg6 arg7 harg7 hc0 hc1 x0 x1 x2 xo3 xs0 xs1 xs2)]
  unfold kernelRun0_B
  dsimp only
  rw [View.canon_cons_unit_zero (S := S64x1024) hz2, View.canon_cons_unit_zero (S := S1x1024) hz2,
    View.canon_cons_unit_zero (S := S1x1024) hz2, View.canon_cons_unit_zero (S := S1x1024) hz2]
  sl_unfold_run_names
  unfold_payloads
  simp only [View.readAt_eq_ld, harg1.read_unread, harg2.read_unread, harg3.read_unread, harg4.read_unread, harg5.read_unread,
    harg6.read_unread, harg7.read_unread, ld_first, ld_zero, ld_next, View.ld_unit_zero (S := S64x64) hz2,
    View.ld_unit_zero (S := S64x1024) hz2, View.ld_unit_zero (S := S1x1024) hz2, shapeCast_self,
    View.readCov_unit_zero (S := S64x1024) _ hz2, View.readCov_unit_zero (S := S1x1024) _ hz2, fold_last, fold_tword,
    fold_emit, fold_rowSum, fold_recip, fold_stepU, fold_pick, hU, hr, hA, ho, run_U, run_r, run_A, run_out, BitVec.reduceToNat]

end CaseB

end Cert.KernelIdeal.Value
end
-- ==== Proof.KGrid.lean ====
/-
  The kernel's grid as one recursion over all 512 time steps: point `n` works through the times `32 n … 32 n + 31`, so what
  the carried buffers hold after it is the state after time `32 n + 31` of the recursion `state`. The result array ends at
  the answers of the state after the last time.
-/
module

public import proofs.«01_k».proof.Proof.KStep
public import Idealize.ShloMosaic.Lib.StableHlo.Run
public import Idealize.ShloMosaic.Lib.Pointwise.Index

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The scores of time `t`, lanes down and tags across. -/
def scores (feats : Vec F S1024x512x64 .f32) (t : ℕ) : Vec F S1x1024x64 .f32 := fun j =>
  feats (ix3 (n0 := 1024) (n1 := 512) (n2 := 64) (j 1) ⟨t % 512, Nat.mod_lt _ (by decide)⟩ (j 2))

/-- The sequence lengths as one row. -/
def lengths (seq : Vec F S1024 .i32) : Vec F S1x1024 .i32 := shapeCast S1x1024 seq shapeCasts_S1024_S1x1024

/-- What the kernel carries after time `t`. -/
def state (feats : Vec F S1024x512x64 .f32) (trans : Vec F S64x64 .f32) (seq : Vec F S1024 .i32) : ℕ → State F
  | 0 => first (lastIdx (lengths seq)) (scores feats 0)
  | t + 1 => step (exp trans) (lastIdx (lengths seq)) (BitVec.ofNat 32 (t + 1)) (scores feats (t + 1)) (state feats trans seq t)

/-- The time steps of one block carry the recursion over all times on from the block's first time. -/
theorem run_eq_state (feats : Vec F S1024x512x64 .f32) (trans : Vec F S64x64 .f32) (seq : Vec F S1024 .i32) (n : ℕ)
    (x0 : Vec F S32x1024x64 .f32) (hx : ∀ k, k < 32 → featBlk x0 k = scores feats (n + k)) (k : ℕ) (hk : k < 32) :
    run (exp trans) (lastIdx (lengths seq)) (BitVec.ofNat 32 n) x0 (state feats trans seq n) k = state feats trans seq (n + k) := by
  induction k with
  | zero => rfl
  | succ k ih =>
    rw [run, ih (by omega), hx _ hk]
    show step _ _ (BitVec.ofNat 32 n + BitVec.ofNat 32 (k + 1)) _ _ = _
    rw [← BitVec.ofNat_add]
    rfl

/-! ## What the host leaves for the windows, and the windows' blocks -/

/-- The scores' array when the grid starts: the argument with its first two axes exchanged. -/
theorem V_main_v0 (c : Dev nD) : V m c main_v0
    = transpose S512x1024x64 [1, 0, 2] (m ((c : Thread nD τ).loc main_arg0)) transposes_S1024x512x64_S512x1024x64_1_0_2 := by
  show StableHlo.after hostOps0 _ (Proc.devRef .tc main_v0) = _
  after_results

/-- The sequence lengths' array when the grid starts: the argument as one row. -/
theorem V_main_v1 (c : Dev nD) : V m c main_v1 = lengths (m ((c : Thread nD τ).loc main_arg2)) := by
  show StableHlo.after hostOps0 _ (Proc.devRef .tc main_v1) = _
  after_results
  rfl

/-- The scores' window at point `t` is block `t` of the array. -/
theorem index0 (t : Fin cfg0.N) : win0_0.index t 0 = t.val ∧ win0_0.index t 1 = 0 ∧ win0_0.index t 2 = 0 := by
  have hN : cfg0.N = 16 := N_0
  revert t
  decide +kernel

/-- Its block holds the scores of the times `32 t … 32 t + 31`. -/
theorem featBlk_iblk (c : Dev nD) (t : Fin cfg0.N) (k : ℕ) (hk : k < 32) :
    featBlk (iblk m c 0 t : Vec F S32x1024x64 .f32) k = scores (m ((c : Thread nD τ).loc main_arg0)) (32 * t.val + k) := by
  have ht : t.val < 16 := Nat.lt_of_lt_of_eq t.isLt N_0
  obtain ⟨i0, i1, i2⟩ := index0 t
  funext j
  have j0 : (j 0).val < 1 := (j 0).isLt
  have j1 : (j 1).val < 1024 := (j 1).isLt
  have j2 : (j 2).val < 64 := (j 2).isLt
  unfold featBlk iblk
  rw [View.read_apply]
  show V m c main_v0 _ = _
  rw [V_main_v0]
  unfold transpose scores
  congr 1
  funext a
  apply Fin.ext
  match a with
  | ⟨0, _⟩ => show win0_0.index t 1 * 1024 + 1 * ((0 + (j 1).val) % 1024) = (j 1).val; rw [i1]; omega
  | ⟨1, _⟩ => show win0_0.index t 0 * 32 + 1 * ((k + (j 0).val) % 32) = (32 * t.val + k) % 512; rw [i0]; omega
  | ⟨2, _⟩ => show win0_0.index t 2 * 64 + 1 * ((0 + (j 2).val) % 64) = (j 2).val; rw [i2]; omega

/-- The transitions' window holds the whole array at every point. -/
theorem iblk_trans (c : Dev nD) (t : Fin cfg0.N) :
    (iblk m c 1 t : Vec F S64x64 .f32) = m ((c : Thread nD τ).loc main_arg1) := by
  have hi : win0_1.index t 0 = 0 ∧ win0_1.index t 1 = 0 := by revert t; decide +kernel
  funext j
  unfold iblk
  rw [View.read_apply]
  show V m c main_arg1 _ = _
  rw [V_main_arg1]
  congr 1
  funext a
  apply Fin.ext
  match a with
  | ⟨0, _⟩ => show win0_1.index t 0 * 64 + 1 * (j 0).val = (j 0).val; rw [hi.1]; omega
  | ⟨1, _⟩ => show win0_1.index t 1 * 64 + 1 * (j 1).val = (j 1).val; rw [hi.2]; omega

/-- The sequence lengths' window holds the whole row at every point. -/
theorem iblk_lengths (c : Dev nD) (t : Fin cfg0.N) :
    (iblk m c 2 t : Vec F S1x1024 .i32) = lengths (m ((c : Thread nD τ).loc main_arg2)) := by
  have hi : win0_2.index t 0 = 0 ∧ win0_2.index t 1 = 0 := by revert t; decide +kernel
  rw [← V_main_v1]
  funext j
  unfold iblk
  rw [View.read_apply]
  show V m c main_v1 _ = V m c main_v1 _
  congr 1
  funext a
  apply Fin.ext
  match a with
  | ⟨0, _⟩ => show win0_2.index t 0 * 1 + 1 * (j 0).val = (j 0).val; rw [hi.1]; omega
  | ⟨1, _⟩ => show win0_2.index t 1 * 1024 + 1 * (j 1).val = (j 1).val; rw [hi.2]; omega

/-- The word of a point's first time. -/
theorem tword_eq (t : Fin cfg0.N) : tword (grid0.coords t) = BitVec.ofNat 32 (32 * t.val) := by
  have ht : t.val < 16 := Nat.lt_of_lt_of_eq t.isLt N_0
  have e0 : (grid0.coords t 0).val = t.val / 1 % 16 := Pipeline.Grid.coords_val t 0 (by decide) rfl
  unfold tword
  rw [e0, show t.val / 1 % 16 = t.val by omega]
  show BitVec.ofNat 32 t.val * BitVec.ofNat 32 32 = _
  rw [← BitVec.ofNat_mul, Nat.mul_comm]

/-- What the buffers hold after point `n` is the state after time `32 n + 31`. -/
theorem outsAt_eq (c : Dev nD) : ∀ (n : ℕ) (h : n < cfg0.N), outsAt0 m c n h
    = (state (m ((c : Thread nD τ).loc main_arg0)) (m ((c : Thread nD τ).loc main_arg1)) (m ((c : Thread nD τ).loc main_arg2)) (32 * n + 31)).outs
  | 0, h => by
    rw [outsAt0_A m c ⟨0, h⟩ rfl (by dsimp only; omega), outs_A, iblk_trans, iblk_lengths, tword_eq, featBlk_iblk m c _ 0 (by decide)]
    exact congrArg State.outs (run_eq_state _ _ _ _ _ (featBlk_iblk m c ⟨0, h⟩) 31 (by decide))
  | n + 1, h => by
    have hN : cfg0.N = 16 := N_0
    rw [outsAt0_B m c ⟨n + 1, h⟩ (by dsimp only; omega) (by dsimp only; omega), outs_B, iblk_trans, iblk_lengths, tword_eq,
      featBlk_iblk m c _ 0 (by decide)]
    have hp := outsAt_eq c n (Nat.lt_of_succ_lt h)
    refine congrArg State.outs (Eq.trans (congrArg (fun s => run _ _ _ _ s 31) ?_) (run_eq_state _ _ _ _ _ (featBlk_iblk m c ⟨n + 1, h⟩) 31 (by decide)))
    show step _ _ _ _ ⟨(outsAt0 m c n _).2.1, (outsAt0 m c n _).2.2.1, (outsAt0 m c n _).2.2.2, (outsAt0 m c n _).1⟩ = _
    rw [hp]
    rfl

/-- The answers after the last time, as the kernel's result array. -/
abbrev answers (c : Dev nD) : Buf (Elt F) ((c : Thread nD τ).loc main_v2) :=
  (state (m ((c : Thread nD τ).loc main_arg0)) (m ((c : Thread nD τ).loc main_arg1)) (m ((c : Thread nD τ).loc main_arg2)) 511).out

/-- The one write-back, at the last point, writes the answers. -/
theorem flushed_eq (c : Dev nD) (t : Fin cfg0.N) (hf : (cfg0.win 3).flush t = true) :
    (dats m 0 c).flushed 3 t = ((cfg0.win 3).blk t).view.read (Elt F) (answers m c) := by
  have hN : cfg0.N = 16 := N_0
  have h3 : t.val = 15 := by have := (flush0_3 t).mp hf; have := t.isLt; omega
  obtain rfl : t = t0_15 := Fin.ext h3
  show (cfg0.win 3).cut (grid0.coords t0_15) ((dats m 0 c).after 3 t0_15) = _
  rw [after0_3, outsAt_eq]
  have hz' : (fun a => win0_3.index t0_15 a * main_v2.ty.shape.size a) = fun _ => 0 := funext fun a => by fin_cases a <;> decide
  exact (Memref.read_access_unit_zero (Elt F) main_v2 hz' (fun a => by rw [congrFun hz' a]; simp) (answers m c)).symm

/-- So the result array ends holding the answers: the last point's block covers it. -/
theorem final_out (c : Dev nD) : (dats m 0 c).arrAt 3 cfg0.N = answers m c :=
  (dats m 0 c).arrAt_eq_of_cover 3 (answers m c) (flushed_eq m c) fun i =>
    ⟨t0_15, (flush0_3 t0_15).mpr rfl, by
      show i ∈ ((View.whole main_v2).slice (win0_3.rect t0_15)).set
      rw [View.set_slice_whole, Rect.mem_set_unit]
      have hidx : ∀ a, win0_3.index t0_15 a * win0_3.size a = 0 := by decide +kernel
      have hsize : ∀ a, win0_3.xsize (grid0.coords t0_15) a = S1x1024.size a := by decide +kernel
      intro a
      have ha : (i a : Nat) < S1x1024.size a := (i a).isLt
      show win0_3.index t0_15 a * win0_3.size a ≤ (i a : Nat) ∧ (i a : Nat) < win0_3.index t0_15 a * win0_3.size a + win0_3.xsize (grid0.coords t0_15) a
      rw [hidx a, hsize a]
      omega⟩

/-- The kernel's returned array: the answers as one column. -/
abbrev result (c : Dev nD) : Buf (Elt F) ((c : Thread nD τ).loc main_v3) :=
  shapeCast S1024x1 (answers m c) shapeCasts_S1x1024_S1024x1

/-- The host's reshape after the grid leaves the answers as one column. -/
theorem W_main_v3 (c : Dev nD) : Pipeline.afterTail₀ cfgs (dats m) 0 (V0 m) [hostOps1] c main_v3 = result m c := by
  unfold Pipeline.afterTail₀
  show StableHlo.after hostOps1 _ (Proc.devRef .tc main_v3) = _
  after_results
  have h := Pipeline.withArrays_arr spec0 (by decide) c (V0 m c) (fun w => (dats m 0 c).arrAt w cfg0.N) 3
  exact congrArg (fun x => shapeCast S1024x1 x shapeCasts_S1x1024_S1024x1) (h.trans (final_out m c))

/-- The kernel's run, read: every execution ends with the returned array at the answers and the arguments unchanged. -/
theorem run_result : θ_run defs (onTc (τ := τ) (main (F := F))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v3 (Pipeline.mem_restRefs_of main_v3 (by decide) (by decide))).trans (W_main_v3 m c), h.2 c⟩)
    (θ_run_and (run_main m ρ) (unchanged m ρ))

end Cert.KernelIdeal.Value
end
-- ==== Proof.KValue.lean ====
/-
  The kernel's returned array over the extended reals: entry `b` is the logarithm of the sum of lane `b`'s forward scores
  at its last time step.
-/
module

public import proofs.«01_k».proof.Proof.KGrid
public import proofs.«01_k».proof.Proof.Math
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Crf

/-! ## The step at one lane -/

section Lane

variable (E : FVec Ideal S64x64 .f32) (fb : Vec Ideal S1x1024x64 .f32) (U : FVec Ideal S64x1024 .f32) (r A o : FVec Ideal S1x1024 .f32)
  (sl1 : IVec S1x1024 32) (wd : BitVec 32) (b : Fin 1024)

/-- A column sum. -/
theorem rowSum_apply : rowSum U (ix2 0 b) = ∑ k : Fin 64, U (ix2 k b) := by
  unfold rowSum
  pointwise

/-- An exponentiated score. -/
theorem emit_apply (i : Fin 64) : emit fb (ix2 i b) = Ideal.exp (fb (ix3 0 b i)) := by
  unfold emit
  pointwise

/-- One over a column sum. -/
theorem recip_apply : recip U (ix2 0 b) = Ideal.div 1 (∑ k : Fin 64, U (ix2 k b)) := by
  unfold recip
  pointwise [rowSum_apply]

/-- An entry of the next scaled forward vector. -/
theorem stepU_apply (i : Fin 64) : stepU E fb U r (ix2 i b)
    = (∑ k : Fin 64, E (ix2 i k) * U (ix2 k b)) * (Ideal.exp (fb (ix3 0 b i)) * r (ix2 0 b)) := by
  unfold stepU
  pointwise [emit_apply, dot_S64x64_S64x1024_S64x1024_1_0_0_1_n_n]

/-- The answer of a lane: taken where the lane's last time index is the word. -/
theorem pick_apply : pick sl1 wd A o (ix2 0 b) = if sl1 (ix2 0 b) = wd then A (ix2 0 b) else o (ix2 0 b) := by
  show (if BitVec.ofBool (sl1 (ix2 0 b) == wd) = 1#1 then A (ix2 0 b) else o (ix2 0 b)) = _
  by_cases h : sl1 (ix2 0 b) = wd
  · rw [if_pos h, beq_iff_eq.2 h]
    exact if_pos rfl
  · rw [if_neg h, beq_false_of_ne h]
    exact if_neg (by decide)

/-- The last time index of a lane. -/
theorem last_apply (seq : Vec Ideal S1024 .i32) : lastIdx (lengths seq) (ix2 0 b) = seq (ix1 b) - 1#32 := by
  have h : lengths seq (ix2 0 b) = seq (ix1 b) := by
    unfold lengths
    pointwise
  show lengths seq (ix2 0 b) - 1#32 = _
  rw [h]

end Lane

/-! ## The recursion at one lane -/

/-- The scores of one lane, by time and tag. -/
def laneScores (feats : Vec Ideal S1024x512x64 .f32) (b : Fin 1024) (t : ℕ) (i : Fin 64) : EReal :=
  feats (ix3 (n0 := 1024) (n1 := 512) (n2 := 64) b ⟨t % 512, Nat.mod_lt _ (by decide)⟩ i)

/-- The transition scores, by next tag and tag. -/
def transScores (trans : Vec Ideal S64x64 .f32) (i j : Fin 64) : EReal := trans (ix2 (n0 := 64) (n1 := 64) i j)

/-- The word of a lane's last time index. -/
def lastWord (seq : Vec Ideal S1024 .i32) (b : Fin 1024) : BitVec 32 := seq (ix1 (n0 := 1024) b) - 1#32

section State

variable (feats : Vec Ideal S1024x512x64 .f32) (trans : Vec Ideal S64x64 .f32) (seq : Vec Ideal S1024 .i32) (b : Fin 1024)
  (hf : ∀ t i, laneScores feats b t i ≠ ⊤) (htr : ∀ i j, transScores trans i j ≠ ⊤)

include hf htr

/-- After every time step each lane carries its forward scores, scaled. -/
theorem state_carried (t : ℕ) : Carried (laneScores feats b) (transScores trans) t
    (fun i => (state feats trans seq t).U (ix2 i b)) ((state feats trans seq t).r (ix2 0 b)) ((state feats trans seq t).A (ix2 0 b)) := by
  induction t with
  | zero =>
    have h := carried_zero (laneScores feats b) (transScores trans) (fun i => hf 0 i)
      (fun i => (state feats trans seq 0).U (ix2 i b)) (fun i => emit_apply (scores feats 0) b i)
    have hr : (state feats trans seq 0).r (ix2 0 b) = _ := recip_apply (emit (scores feats 0)) b
    have hA : (state feats trans seq 0).A (ix2 0 b) = Ideal.log (∑ k : Fin 64, (state feats trans seq 0).U (ix2 k b)) :=
      congrArg Ideal.log (rowSum_apply (emit (scores feats 0)) b)
    rw [hr, hA]
    exact h
  | succ t ih =>
    have h := carried_succ (laneScores feats b) (transScores trans) t (fun i => hf (t + 1) i) htr _ _ _ ih
      (fun i => (state feats trans seq (t + 1)).U (ix2 i b))
      (fun i => stepU_apply (exp trans) (scores feats (t + 1)) (state feats trans seq t).U (state feats trans seq t).r b i)
    have hr : (state feats trans seq (t + 1)).r (ix2 0 b) = Ideal.div 1 (∑ k : Fin 64, (state feats trans seq (t + 1)).U (ix2 k b)) :=
      recip_apply (state feats trans seq (t + 1)).U b
    have hA : (state feats trans seq (t + 1)).A (ix2 0 b)
        = (state feats trans seq t).A (ix2 0 b) + Ideal.log (∑ k : Fin 64, (state feats trans seq (t + 1)).U (ix2 k b)) :=
      congrArg (fun x => (state feats trans seq t).A (ix2 0 b) + Ideal.log x) (rowSum_apply (state feats trans seq (t + 1)).U b)
    rw [hr, hA]
    exact h

/-- The logarithm each lane carries is that of the sum of its forward scores. -/
theorem state_log (t : ℕ) : (state feats trans seq t).A (ix2 0 b)
    = Ideal.log ((total (laneScores feats b) (transScores trans) t : ℝ) : EReal) := by
  obtain ⟨c, -, -, -, h⟩ := state_carried feats trans seq b hf htr t
  exact h

/-- A lane's answer after time `t`: once its last time step is reached, the logarithm of the sum of its forward scores
    then; 0 before. -/
theorem state_out (t : ℕ) (ht : t < 2 ^ 32) : (state feats trans seq t).out (ix2 0 b)
    = if (lastWord seq b).toNat ≤ t then Ideal.log ((total (laneScores feats b) (transScores trans) (lastWord seq b).toNat : ℝ) : EReal) else 0 := by
  have key : ∀ (t : ℕ), t < 2 ^ 32 → (lastWord seq b = BitVec.ofNat 32 t ↔ (lastWord seq b).toNat = t) := fun t ht => by
    constructor
    · intro h; rw [h, BitVec.toNat_ofNat, Nat.mod_eq_of_lt ht]
    · intro h; apply BitVec.eq_of_toNat_eq; rw [h, BitVec.toNat_ofNat, Nat.mod_eq_of_lt ht]
  induction t with
  | zero =>
    have h : (state feats trans seq 0).out (ix2 0 b) = if lastWord seq b = BitVec.ofNat 32 0 then (state feats trans seq 0).A (ix2 0 b) else 0 := by
      have h := pick_apply (state feats trans seq 0).A (broadcast S1x1024 (Scalar.ofBits .f32 0x00000000#32)) (lastIdx (lengths seq)) 0#32 b
      rw [last_apply, show (broadcast S1x1024 (Scalar.ofBits (F := Ideal) .f32 0x00000000#32) : FVec Ideal S1x1024 .f32) (ix2 0 b) = 0 from Ideal.ofBits_zero_f32] at h
      exact h
    rw [h, state_log feats trans seq b hf htr]
    by_cases hc : (lastWord seq b).toNat = 0
    · rw [if_pos ((key 0 ht).2 hc), if_pos hc.le, hc]
    · rw [if_neg fun e => hc ((key 0 ht).1 e), if_neg (by omega)]
  | succ t ih =>
    have h : (state feats trans seq (t + 1)).out (ix2 0 b)
        = if lastWord seq b = BitVec.ofNat 32 (t + 1) then (state feats trans seq (t + 1)).A (ix2 0 b) else (state feats trans seq t).out (ix2 0 b) := by
      have h := pick_apply (state feats trans seq (t + 1)).A (state feats trans seq t).out (lastIdx (lengths seq)) (BitVec.ofNat 32 (t + 1)) b
      rw [last_apply] at h
      exact h
    rw [h, state_log feats trans seq b hf htr, ih (by omega)]
    by_cases hc : (lastWord seq b).toNat = t + 1
    · rw [if_pos ((key _ ht).2 hc), if_pos hc.le, hc]
    · rw [if_neg fun e => hc ((key _ ht).1 e)]
      by_cases hl : (lastWord seq b).toNat ≤ t
      · rw [if_pos hl, if_pos (by omega)]
      · rw [if_neg hl, if_neg (by omega)]

end State

/-- The kernel's returned array, entry by entry. -/
theorem result_apply (m : (ℓ : Loc nD τ sig) → Buf (Elt Ideal) ℓ) (c : Dev nD) (b : Fin 1024)
    (hf : ∀ t i, laneScores (m ((c : Thread nD τ).loc main_arg0)) b t i ≠ ⊤)
    (htr : ∀ i j, transScores (m ((c : Thread nD τ).loc main_arg1)) i j ≠ ⊤)
    (n : ℕ) (hn : n < 512) (hs : (lastWord (m ((c : Thread nD τ).loc main_arg2)) b).toNat = n) :
    (result m c : Vec Ideal S1024x1 .f32) (ix2 b 0)
      = Ideal.log ((total (laneScores (m ((c : Thread nD τ).loc main_arg0)) b) (transScores (m ((c : Thread nD τ).loc main_arg1))) n : ℝ) : EReal) := by
  have h : (result m c : Vec Ideal S1024x1 .f32) (ix2 b 0) = (answers m c : Vec Ideal S1x1024 .f32) (ix2 0 b) := by
    show shapeCast S1024x1 (answers m c : Vec Ideal S1x1024 .f32) shapeCasts_S1x1024_S1024x1 (ix2 b 0) = _
    generalize (answers m c : Vec Ideal S1x1024 .f32) = a
    pointwise
  rw [h]
  show (state _ _ _ 511).out (ix2 0 b) = _
  rw [state_out _ _ _ b hf htr 511 (by decide), hs, if_pos (by omega)]

end Cert.KernelIdeal.Value
end
-- ==== Proof.RefValue.lean ====
/-
  The reference's returned array over the extended reals: entry `b` is the logarithm of the sum of lane `b`'s forward
  scores at its last time step.
-/
module

public import proofs.«01_k».proof.Proof.RefOps
public import proofs.«01_k».proof.Proof.KValue

@[expose] public section

set_option maxRecDepth 100000

noncomputable section

namespace Cert.ReferenceIdeal.Value

open Idealize.ShloMosaic Idealize.ShloMosaic.TcCoe Idealize.ShloMosaic.Tactic Idealize.SL.Sem
open Cert.ReferenceIdeal Cert.ReferenceIdeal.Gen Cert.Crf
open Idealize.ShloMosaic.StableHlo
open Cert.KernelIdeal.Value (laneScores transScores lastWord)

variable (m : (ℓ : Loc nD τ sig) → Buf (Elt Ideal) ℓ) (ρ : Dev nD → PrngReg) (c : Dev nD)

/-! ## The launch arguments, and the buffers at the loop's entry -/

/-- The emission scores at launch. -/
abbrev feats : FVec Ideal S1024x512x64 .f32 := m ((c.tc : Thread nD τ).loc main_arg0)
/-- The transition scores at launch. -/
abbrev trans : FVec Ideal S64x64 .f32 := m ((c.tc : Thread nD τ).loc main_arg1)
/-- The sequence lengths at launch. -/
abbrev lens : IVec S1024 32 := m ((c.tc : Thread nD τ).loc main_arg2)

/-- The loop is handed the emissions of the later steps. -/
theorem entry_scores : entryContents preI m c (Proc.devRef .tc main_v14_0) = laterScores (feats m c) := by
  simp only [entryContents, afterL_cons, afterL_nil]
  after_reads_simp
  rfl

/-- The loop is handed the transitions. -/
theorem entry_trans : entryContents preI m c (Proc.devRef .tc main_v14_1) = trans m c := by
  simp only [entryContents, afterL_cons, afterL_nil]
  after_reads_simp
  rfl

/-- The loop starts from the emissions of the first step. -/
theorem entry_forward : entryContents preI m c (Proc.devRef .tc main_v14_3) = firstScores (feats m c) := by
  simp only [entryContents, afterL_cons, afterL_nil]
  after_reads_simp
  rfl

/-- The first step's log of the sum of exponentials. -/
theorem entry_first : entryContents preI m c (Proc.devRef .tc main_v11) = rowLse (firstScores (feats m c)) := by
  simp only [entryContents, afterL_cons, afterL_nil]
  after_reads_simp
  rfl

/-! ## One trip, of the buffers it reads -/

section Trip

variable (V : Valuation τ sig (Elt Ideal))

/-- The carried vector after a trip. -/
theorem trip_forward : STEP V (Proc.devRef .tc main_v14_3) = pairLse (pairScores (V (Proc.devRef .tc main_v14_0)) (V (Proc.devRef .tc main_v14_1))
    (V (Proc.devRef .tc main_v14_2)) (V (Proc.devRef .tc main_v14_3))) :=
  STEP_main_v14_3 V

/-- The stored rows after a trip. -/
theorem trip_rows : STEP V (Proc.devRef .tc main_v14_4) = Host.dynamicUpdateSlice (V (Proc.devRef .tc main_v14_4))
    (broadcastInDim S1x1024 ![1] bcast_S1024_S1x1024_1 (rowLse (STEP V (Proc.devRef .tc main_v14_3))))
    (fun a => (((![V (Proc.devRef .tc main_v14_2), constantI S_ 32 0#32] : Fin 2 → IVec S_ 32)) a (Shape.Idx.first h_S_)).toInt)
    updateFits_S511x1024_S1x1024 := by
  rw [trip_forward]
  exact STEP_main_v14_4 V

/-- The counter after a trip. -/
theorem trip_counter (n : ℕ) (h : V (Proc.devRef .tc main_v14_2) = (fun _ => BitVec.ofNat 32 n : IVec S_ 32)) :
    STEP V (Proc.devRef .tc main_v14_2) = (fun _ => BitVec.ofNat 32 (n + 1) : IVec S_ 32) := by
  rw [STEP_main_v14_2]
  unfold step_main_v14_2
  rw [h]
  funext i
  show BitVec.ofNat 32 n + BitVec.ofNat 32 1 = _
  rw [← BitVec.ofNat_add]

end Trip

/-! ## The loop's invariant -/

/-- What the carried buffers hold before trip `k`: the loop constants, the trip's number, the log of the forward scores at
    step `k`, and in the rows already stored the log of each step's sum. -/
structure Before (k : ℕ) (V : Valuation τ sig (Elt Ideal)) : Prop where
  scores : V (Proc.devRef .tc main_v14_0) = laterScores (feats m c)
  moves : V (Proc.devRef .tc main_v14_1) = trans m c
  counter : V (Proc.devRef .tc main_v14_2) = (fun _ => BitVec.ofNat 32 k : IVec S_ 32)
  forward : ∀ (b : Fin 1024) (i : Fin 64), (V (Proc.devRef .tc main_v14_3) : FVec Ideal S1024x64 .f32) (ix2 b i)
    = Ideal.log (alpha (laneScores (feats m c) b) (transScores (trans m c)) k i : EReal)
  rows : ∀ (b : Fin 1024) (t : ℕ) (ht : t < 511), t < k → (V (Proc.devRef .tc main_v14_4) : FVec Ideal S511x1024 .f32) (ix2 ⟨t, ht⟩ b)
    = Ideal.log (total (laneScores (feats m c) b) (transScores (trans m c)) (t + 1) : EReal)

variable (hf : ∀ b t i, laneScores (feats m c) b t i ≠ ⊤) (htr : ∀ i j, transScores (trans m c) i j ≠ ⊤)

include hf in
/-- The loop is entered with the log of the forward scores at step 0. -/
theorem before_zero : Before m c 0 (entryContents preI m c) where
  scores := entry_scores m c
  moves := entry_trans m c
  counter := ctr_entry m c
  forward b i := by
    rw [entry_forward, firstScores_apply]
    exact (log_w (hf b 0 i)).symm
  rows b t ht h := absurd h (Nat.not_lt_zero t)

include hf htr in
/-- A trip takes the log of the forward scores one step on and stores the log of their sum. -/
theorem before_succ (k : ℕ) (hk : k < 511) (V : Valuation τ sig (Elt Ideal)) (h : Before m c k V) : Before m c (k + 1) (STEP V) := by
  have hfw : ∀ (b : Fin 1024) (i : Fin 64), (STEP V (Proc.devRef .tc main_v14_3) : FVec Ideal S1024x64 .f32) (ix2 b i)
      = Ideal.log (alpha (laneScores (feats m c) b) (transScores (trans m c)) (k + 1) i : EReal) := by
    intro b i
    have hp : ∀ j, pairScores (laterScores (feats m c)) (trans m c) (fun _ => BitVec.ofNat 32 k) (V (Proc.devRef .tc main_v14_3)) (ix3 b i j)
        = Ideal.log (alpha (laneScores (feats m c) b) (transScores (trans m c)) k j : EReal) + laneScores (feats m c) b (k + 1) i
          + transScores (trans m c) i j := by
      intro j
      rw [pairScores_apply _ _ k hk, laterScores_apply _ k hk, h.forward b j]
      have e : (⟨k + 1, by omega⟩ : Fin 512) = ⟨(k + 1) % 512, Nat.mod_lt _ (by omega)⟩ := Fin.ext (Nat.mod_eq_of_lt (by omega)).symm
      show _ + feats m c (ix3 b ⟨k + 1, by omega⟩ i) + _ = _ + feats m c (ix3 b ⟨(k + 1) % 512, _⟩ i) + _
      rw [e]
      rfl
    rw [trip_forward, h.scores, h.moves, h.counter, pairLse_apply _ b i fun j => by
      rw [hp j]
      exact EReal.add_ne_top (EReal.add_ne_top (log_ne_top _) (hf b (k + 1) i)) (htr i j)]
    rw [Finset.sum_congr rfl fun j _ => by rw [hp j],
      log_alpha_succ (laneScores (feats m c) b) (transScores (trans m c)) k (hf b (k + 1)) htr i]
  refine ⟨(STEP_main_v14_0 V).trans h.scores, (STEP_main_v14_1 V).trans h.moves, trip_counter V k h.counter, hfw, ?_⟩
  intro b t ht htk
  rw [trip_rows, h.counter]
  refine (setRow_apply _ _ k hk ⟨t, ht⟩ b).trans ?_
  by_cases e : t = k
  · refine (if_pos e).trans ?_
    rw [rowLse_apply _ b fun j => by rw [hfw b j]; exact log_ne_top _]
    subst e
    rw [Finset.sum_congr rfl fun j _ => by
      rw [hfw b j, w_log (alpha_nonneg _ _ _ _)]]
    rfl
  · refine (if_neg e).trans ?_
    exact h.rows b t ht (by omega)

include hf htr in
/-- Before every trip the carried buffers hold what the invariant says. -/
theorem before_iterate : ∀ k, k ≤ 511 → Before m c k (STEP^[k] (entryContents preI m c))
  | 0, _ => before_zero m c hf
  | k + 1, hk => by
    rw [Function.iterate_succ_apply']
    exact before_succ m c hf htr k (by omega) _ (before_iterate k (by omega))

/-! ## After the loop -/

/-- A buffer no operation of the loop writes keeps its contents through it. -/
theorem atK_keep (r : Ref sig .tc) (hc : r ∉ condOps_W) (h0 : r ∉ while0Ops0_W) (h1 : r ∉ while0Ops0_1_W) (h2 : r ∉ while0Ops0_2_W)
    (h3 : r ∉ while0Ops0_3_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, atK_keep r hc h0 h1 h2 h3 k]
    rfl

/-- A buffer neither the loop nor the operations before it write keeps its launch contents up to the loop's end. -/
theorem loop_keep (r : Ref sig .tc) (hp : r ∉ hostOps0_W) (hc : r ∉ condOps_W) (h0 : r ∉ while0Ops0_W) (h1 : r ∉ while0Ops0_1_W)
    (h2 : r ∉ while0Ops0_2_W) (h3 : r ∉ while0Ops0_3_W) :
    after condOps (atK m 511 c) (Proc.devRef .tc r) = m ((c.tc : Thread nD τ).loc r) := by
  rw [after_of_writes_sub condOps _ condOps_writes hc, atK_keep m c r hc h0 h1 h2 h3]
  simp only [entryContents, afterL_cons, afterL_nil]
  rw [after_of_writes_sub hostOps0 _ hostOps0_writes hp]

/-- The stretches after the loop leave the table of answers by lane. -/
theorem post_table (X : Valuation τ sig (Elt Ideal)) :
    after hostOps0_1 X (Proc.devRef .tc main_v19) = answerTable (X (Proc.devRef .tc main_v11)) (X (Proc.devRef .tc main_v14_4)) := by
  after_results
  rfl

/-- And the column of last time indices. -/
theorem post_column (X : Valuation τ sig (Elt Ideal)) :
    after hostOps0_1 X (Proc.devRef .tc main_v20) = lastColumn (X (Proc.devRef .tc main_arg2)) := by
  after_results
  rfl

/-- The lookup's result, of the table and the column. -/
theorem post_lookup (X : Valuation τ sig (Elt Ideal)) :
    after hostOps0_2 X (Proc.devRef .tc main_v21) = select (lookupInside (lookupStarts (X (Proc.devRef .tc main_v20))))
      (Host.gather gather_S1024x512_S1024x1x1_S1024x1_n_1_0_0_1_2_11 (X (Proc.devRef .tc main_v19) : FVec Ideal S1024x512 .f32)
        (lookupStarts (X (Proc.devRef .tc main_v20))))
      (broadcastInDim S1024x1 ![] bcast_S_S1024x1 (constant S_ .f32 0x7FC00000#32) : FVec Ideal S1024x1 .f32) := by
  after_results
  rfl

/-- What the program leaves in its returned array. -/
def result : FVec Ideal S1024x1 .f32 := finalContents condOps preI bodyI postI 511 m c (Proc.devRef .tc main_v21)

include hf htr in
/-- Entry `b` of the returned array: the log of the sum of lane `b`'s forward scores at its last time step. -/
theorem result_apply (b : Fin 1024) (n : ℕ) (hn : n < 512) (hs : (lastWord (lens m c) b).toNat = n) :
    result m c (ix2 b 0) = Ideal.log ((total (laneScores (feats m c) b) (transScores (trans m c)) n : ℝ) : EReal) := by
  have hcol : (lastColumn (lens m c) (ix2 b 0)).toInt = n := by
    rw [lastColumn_apply, show lens m c (ix1 b) - 1#32 = lastWord (lens m c) b from rfl,
      BitVec.toInt_eq_toNat_of_lt (by rw [hs]; omega), hs]
  have hst : (lookupStarts (lastColumn (lens m c)) (ix3 b 0 0)).toInt = n := by
    rw [lookupStarts_apply _ b (by rw [hcol]; omega), hcol]
  have hfin : result m c = select (lookupInside (lookupStarts (lastColumn (lens m c))))
      (Host.gather gather_S1024x512_S1024x1x1_S1024x1_n_1_0_0_1_2_11
        (answerTable (rowLse (firstScores (feats m c))) (after condOps (atK m 511 c) (Proc.devRef .tc main_v14_4)))
        (lookupStarts (lastColumn (lens m c))))
      (broadcastInDim S1024x1 ![] bcast_S_S1024x1 (constant S_ .f32 0x7FC00000#32) : FVec Ideal S1024x1 .f32) := by
    unfold result
    simp only [finalContents, afterL_cons, afterL_nil]
    rw [post_lookup, post_table, post_column,
      loop_keep m c main_arg2 (by decide +kernel) (by decide +kernel) (by decide +kernel) (by decide +kernel) (by decide +kernel) (by decide +kernel),
      after_of_writes_sub (r := main_v11) condOps _ condOps_writes (by decide +kernel),
      show atTrip condOps bodyI (entryContents preI m) 511 c (Proc.devRef .tc main_v11) = _ from atK_keep m c main_v11 (by decide +kernel) (by decide +kernel) (by decide +kernel) (by decide +kernel) (by decide +kernel) 511, entry_first]
  rw [hfin]
  show Scalar.select (lookupInside (lookupStarts (lastColumn (lens m c))) (ix2 b 0)) (Host.gather gather_S1024x512_S1024x1x1_S1024x1_n_1_0_0_1_2_11
    _ (lookupStarts (lastColumn (lens m c))) (ix2 b 0)) _ = _
  rw [lookupInside_apply _ b (by rw [hst]; omega) (by rw [hst]; omega), lookup_apply _ _ b n hn hst]
  refine (if_pos rfl).trans ?_
  rcases n with _ | t
  · refine (answerTable_zero _ _ b).trans ?_
    rw [rowLse_apply _ b fun j => by rw [firstScores_apply]; exact hf b 0 j]
    rw [Finset.sum_congr rfl fun j _ => by rw [firstScores_apply]]
    rfl
  · refine (answerTable_succ _ _ b t (by omega)).trans ?_
    rw [after_of_writes_sub (r := main_v14_4) condOps _ condOps_writes (by decide +kernel), atK_agree m c 511 main_v14_4 (by decide)]
    exact (before_iterate m c hf htr 511 le_rfl).rows b t (by omega) (by omega)

/-! ## The run -/

/-- Every execution leaves the arguments as they were and the returned array at `result`. -/
theorem run_result : θ_run (defs (F := Ideal)) (onTc (τ := τ) (main (F := Ideal))) ⟨m, fun _ => 0, ρ⟩
    (fun r => ∀ c : Dev nD, r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have keep : ∀ (c : Dev nD) (r : Ref sig .tc), r ∉ hostOps0_W → r ∉ condOps_W → r ∉ while0Ops0_W → r ∉ while0Ops0_1_W → r ∉ while0Ops0_2_W →
      r ∉ while0Ops0_3_W → (∀ X : Valuation τ sig (Elt Ideal), after hostOps0_2 (after hostOps0_1 X) (Proc.devRef .tc r) = X (Proc.devRef .tc r)) →
      finalContents condOps preI bodyI postI 511 m c (Proc.devRef .tc r) = m ((c.tc : Thread nD τ).loc r) := by
    intro c r hp hc h0 h1 h2 h3 hX
    simp only [finalContents, afterL_cons, afterL_nil]
    rw [hX, loop_keep m c r hp hc h0 h1 h2 h3]
  refine (θ_run _ _ _).mono (fun r h c => ⟨h c main_v21 rfl, ?_, ?_, ?_⟩) (run_fold m ρ)
  · exact (h c main_arg0 rfl).trans (keep c main_arg0 (by decide +kernel) (by decide +kernel) (by decide +kernel) (by decide +kernel) (by decide +kernel)
      (by decide +kernel) fun X => by after_results)
  · exact (h c main_arg1 rfl).trans (keep c main_arg1 (by decide +kernel) (by decide +kernel) (by decide +kernel) (by decide +kernel) (by decide +kernel)
      (by decide +kernel) fun X => by after_results)
  · exact (h c main_arg2 rfl).trans (keep c main_arg2 (by decide +kernel) (by decide +kernel) (by decide +kernel) (by decide +kernel) (by decide +kernel)
      (by decide +kernel) fun X => by after_results)

end Cert.ReferenceIdeal.Value
-- ==== Proof.Agreement.lean ====
/-
  The kernel and the reference leave the same array, for scores below +∞ and lengths from 1 to 512.
-/
module

public import proofs.«01_k».proof.Defs
public import proofs.«01_k».proof.Proof.RefValue
public import proofs.«01_k».proof.Proof.KValue
public import Idealize.ShloMosaic.Lib.Quiescent

@[expose] public section

set_option maxRecDepth 16384

noncomputable section

namespace Cert.Agreement

open Idealize.ShloMosaic Idealize.ShloMosaic.TcCoe Idealize.SL.Sem
open Cert.KernelIdeal.Value (laneScores transScores lastWord)

/-- The shape facts of the precondition: each constant may be laid out over its array. -/
theorem pre_facts : Cert.Pre_scores_below_infinity.Facts where
  bcast_S_S1024x512x64 := ⟨by decide, fun a => a.elim0⟩
  bcast_S_S64x64 := ⟨by decide, fun a => a.elim0⟩
  bcast_S_S1024 := ⟨by decide, fun a => a.elim0⟩

/-! ## What the precondition says -/

/-- The pattern of +∞ names +∞. -/
theorem posInf_read : Ideal.ofBits FTy.f32 0x7F800000#32 = ⊤ := by
  simp [Ideal.ofBits, Ideal.ieee]

/-- A one-bit truth that is set is true. -/
theorem of_ofBool {p : Bool} (h : BitVec.ofBool p = 1#1) : p = true := by
  cases p
  · exact absurd h (by decide)
  · rfl

/-- A value that compares below +∞ is not +∞. -/
theorem ne_top_of_cmp {x : EReal} (h : Ideal.cmp .olt x (Ideal.ofBits FTy.f32 0x7F800000#32) = 1#1) : x ≠ ⊤ := by
  rw [posInf_read] at h
  have h' : BitVec.ofBool (decide (x < ⊤)) = 1#1 := h
  exact (of_decide_eq_true (of_ofBool h')).ne

/-- A length from 1 to 512 has a last time index below 512. -/
theorem last_lt {s : BitVec 32} (h : IntOp.cmpi .sge s 1#32 &&& IntOp.cmpi .sle s 512#32 = 1#1) : (s - 1#32).toNat < 512 := by
  have hand : ∀ p q : BitVec 1, p &&& q = 1#1 → p = 1#1 ∧ q = 1#1 := by decide
  obtain ⟨h1, h2⟩ := hand _ _ h
  have e1 : (1#32 : BitVec 32).sle s = true := of_ofBool h1
  have e2 : s.sle 512#32 = true := of_ofBool h2
  rw [BitVec.sle, decide_eq_true_eq] at e1 e2
  have k1 : (1#32 : BitVec 32).toInt = 1 := by decide
  have k2 : (512#32 : BitVec 32).toInt = 512 := by decide
  rw [k1] at e1
  rw [k2] at e2
  rw [BitVec.toInt_eq_toNat_cond] at e1 e2
  have hs := s.isLt
  have hk : (1#32 : BitVec 32).toNat = 1 := by decide
  rw [BitVec.toNat_sub, hk]
  split at e1 <;> omega

section Pre

variable [Cert.Pre_scores_below_infinity.Facts]
variable (m : (ℓ : Loc Cert.KernelIdeal.nD Cert.KernelIdeal.τ Cert.KernelIdeal.sig) → Buf (Elt Ideal) ℓ)
variable (h : Cert.Pre_KernelIdeal_scores_below_infinity m) (c : Dev Cert.KernelIdeal.nD)

include h in
/-- No emission score is +∞. -/
theorem feats_ne_top (b : Fin 1024) (t : ℕ) (i : Fin 64) :
    laneScores (m ((c.tc : Thread Cert.KernelIdeal.nD Cert.KernelIdeal.τ).loc Cert.KernelIdeal.main_arg0)) b t i ≠ ⊤ :=
  ne_top_of_cmp (congrFun (h c).1 (ix3 b ⟨t % 512, Nat.mod_lt _ (by omega)⟩ i))

include h in
/-- No transition score is +∞. -/
theorem trans_ne_top (i j : Fin 64) :
    transScores (m ((c.tc : Thread Cert.KernelIdeal.nD Cert.KernelIdeal.τ).loc Cert.KernelIdeal.main_arg1)) i j ≠ ⊤ :=
  ne_top_of_cmp (congrFun (h c).2.1 (ix2 i j))

include h in
/-- Every lane's last time index is below 512. -/
theorem last_word_lt (b : Fin 1024) :
    (lastWord (m ((c.tc : Thread Cert.KernelIdeal.nD Cert.KernelIdeal.τ).loc Cert.KernelIdeal.main_arg2)) b).toNat < 512 :=
  last_lt (congrFun (h c).2.2 (ix1 b))

end Pre

/-! ## The claims -/

/-- The reference terminates, leaves its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run_result m ρ)

/-- From equal arguments that meet the precondition, the two programs' returned arrays are equal. -/
theorem results_eq [Cert.Pre_scores_below_infinity.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scores_below_infinity m) (c : Dev Cert.KernelIdeal.nD)
    (h0 : Cert.ReferenceIdeal.Value.feats m' c = m ((c.tc : Thread Cert.KernelIdeal.nD Cert.KernelIdeal.τ).loc Cert.KernelIdeal.main_arg0))
    (h1 : Cert.ReferenceIdeal.Value.trans m' c = m ((c.tc : Thread Cert.KernelIdeal.nD Cert.KernelIdeal.τ).loc Cert.KernelIdeal.main_arg1))
    (h2 : Cert.ReferenceIdeal.Value.lens m' c = m ((c.tc : Thread Cert.KernelIdeal.nD Cert.KernelIdeal.τ).loc Cert.KernelIdeal.main_arg2)) :
    Cert.ReferenceIdeal.Value.result m' c = (Cert.KernelIdeal.Value.result m c : Vec Ideal Cert.KernelIdeal.S1024x1 .f32) := by
  funext y
  obtain ⟨b, rfl⟩ : ∃ b : Fin 1024, y = ix2 b 0 := ⟨y 0, funext fun a => match a with
    | ⟨0, _⟩ => rfl
    | ⟨1, _⟩ => Subsingleton.elim (α := Fin 1) _ _⟩
  have hk := Cert.KernelIdeal.Value.result_apply m c b (feats_ne_top m hpre c b) (trans_ne_top m hpre c) _ (last_word_lt m hpre c b) rfl
  have hr := Cert.ReferenceIdeal.Value.result_apply m' c
    (by rw [h0]; exact feats_ne_top m hpre c) (by rw [h1]; exact trans_ne_top m hpre c) b _
    (by rw [h2]; exact last_word_lt m hpre c b) rfl
  rw [h0, h1, h2] at hr
  exact hr.trans hk.symm

end Cert.Agreement
-- ==== Proof.lean ====
/-
  The proof of `Cert.Claim`: the kernel, its reading over the extended reals and the reference run to their end and leave
  their arguments and every counter as they were; and, over the extended reals, the kernel and the reference return the
  same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Agreement.pre_facts,
    fun m ρ _ => Cert.Kernel.Gen.frame m ρ,
    fun m ρ _ => Cert.KernelIdeal.Gen.frame m ρ,
    fun m ρ _ => Cert.KernelIdeal.Gen.frame m ρ,
    fun m ρ _ => Cert.Agreement.reference_frame m ρ,
    fun m ρ _ => Cert.Agreement.reference_frame m ρ,
    trivial,
    fun m ρ m' ρ' hpre hagree => ⟨Cert.KernelIdeal.Value.result m, Cert.KernelIdeal.Value.run_result m ρ,
      (θ_run _ _ _).mono (fun _ h c =>
        ⟨(h c).1.trans (@Cert.Agreement.results_eq Cert.Agreement.pre_facts m m' hpre c (hagree c).1 (hagree c).2.1 (hagree c).2.2), (h c).2⟩)
        (Cert.ReferenceIdeal.Value.run_result m' ρ')⟩⟩

end Cert.Proof

end
